-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "loss_scale" .f32 0x350E38E4#32 ((5 / 9437184 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v198) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x576x64 : Shape := ⟨3, ![64, 576, 64]⟩
abbrev S4x1024x64 : Shape := ⟨3, ![4, 1024, 64]⟩
abbrev S_ : Shape := ⟨0, ![]⟩

class Facts : Prop where
  bcast_S_S64x576x64 : S_.BroadcastsInDim S64x576x64 (![] : Fin 0 → Fin S64x576x64.rank)
  reducesTo_S64x576x64_S_d0_1_2 : S64x576x64.ReducesTo [0, 1, 2] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_

variable [Facts]

def fn {F : FTy → Type} [FloatOps F] (main_arg0 : FVec F S64x576x64 .f32) (main_arg1 : FVec F S4x1024x64 .f32) : IVec S_ 1 :=
  let main_v0 : FVec F S64x576x64 .f32 := Host.absf main_arg0
  let main_cst : FVec F S_ .f32 := constant S_ .f32 0x7F800000#32
  let main_v1 : FVec F S64x576x64 .f32 := broadcastInDim S64x576x64 ![] bcast_S_S64x576x64 main_cst
  let main_v2 : IVec S64x576x64 1 := cmpf .olt main_v0 main_v1
  let main_c : IVec S_ 1 := constantI S_ 1 1#1
  let main_v3 : IVec S_ 1 := (fun x v => Host.reduce IntOp.andi x v reducesTo_S64x576x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S64x576x64 : Shape := ⟨3, ![64, 576, 64]⟩
abbrev S4x1024x64 : Shape := ⟨3, ![4, 1024, 64]⟩
abbrev S36864x64 : Shape := ⟨2, ![36864, 64]⟩
abbrev S_ : Shape := ⟨0, ![]⟩
abbrev S4x1024 : Shape := ⟨2, ![4, 1024]⟩
abbrev S4x1024x1 : Shape := ⟨3, ![4, 1024, 1]⟩
abbrev S4x1024x192 : Shape := ⟨3, ![4, 1024, 192]⟩
abbrev S18x4x2048 : Shape := ⟨3, ![18, 4, 2048]⟩
abbrev S1x1 : Shape := ⟨2, ![1, 1]⟩
abbrev S2048x64 : Shape := ⟨2, ![2048, 64]⟩
abbrev S1x4x2048 : Shape := ⟨3, ![1, 4, 2048]⟩
abbrev S4x1x1024 : Shape := ⟨3, ![4, 1, 1024]⟩
abbrev S64x2048 : Shape := ⟨2, ![64, 2048]⟩
abbrev S1024x2048 : Shape := ⟨2, ![1024, 2048]⟩
abbrev S8x2048 : Shape := ⟨2, ![8, 2048]⟩
abbrev S4x2048 : Shape := ⟨2, ![4, 2048]⟩
abbrev S2x2048 : Shape := ⟨2, ![2, 2048]⟩
abbrev S1x2048 : Shape := ⟨2, ![1, 2048]⟩
abbrev S1x1024x64 : Shape := ⟨3, ![1, 1024, 64]⟩
abbrev S1024x64 : Shape := ⟨2, ![1024, 64]⟩
abbrev S1x1024x1 : Shape := ⟨3, ![1, 1024, 1]⟩
abbrev S1024x1 : Shape := ⟨2, ![1024, 1]⟩
abbrev S2048 : Shape := ⟨1, ![2048]⟩
abbrev S1x1024x192 : Shape := ⟨3, ![1, 1024, 192]⟩
abbrev S1024x192 : Shape := ⟨2, ![1024, 192]⟩
abbrev S192x2048 : Shape := ⟨2, ![192, 2048]⟩
abbrev S1x64x2048 : Shape := ⟨3, ![1, 64, 2048]⟩
abbrev S1 : Shape := ⟨1, ![1]⟩
abbrev S1x1x1 : Shape := ⟨3, ![1, 1, 1]⟩
abbrev S8x1024 : Shape := ⟨2, ![8, 1024]⟩
abbrev S1x1x1024 : Shape := ⟨3, ![1, 1, 1024]⟩
abbrev S1x1024 : Shape := ⟨2, ![1, 1024]⟩
abbrev S1x1x2048 : Shape := ⟨3, ![1, 1, 2048]⟩
abbrev S1x4x1x1024 : Shape := ⟨4, ![1, 4, 1, 1024]⟩
abbrev S1x1x1x1 : Shape := ⟨4, ![1, 1, 1, 1]⟩
abbrev S4x18x2048 : Shape := ⟨3, ![4, 18, 2048]⟩
abbrev S4x64x576 : Shape := ⟨3, ![4, 64, 576]⟩

abbrev nBuf : Space → Nat
  | .hbm => 42
  | .vmem => 10
  | .smem => 2
  | _ => 0

abbrev bufTy : (tb : Table) → Fin (tcTables nBuf tb) → BufTy
  | .hbm, ⟨0, _⟩ => ⟨S64x576x64, .f32⟩
  | .hbm, ⟨1, _⟩ => ⟨S4x1024x64, .f32⟩
  | .hbm, ⟨2, _⟩ => ⟨S36864x64, .f32⟩
  | .hbm, ⟨3, _⟩ => ⟨S4x1024x64, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S4x1024x64, .bf16⟩
  | .hbm, ⟨8, _⟩ => ⟨S4x1024x64, .f32⟩
  | .hbm, ⟨9, _⟩ => ⟨S_, .f32⟩
  | .hbm, ⟨10, _⟩ => ⟨S4x1024x64, .f32⟩
  | .hbm, ⟨11, _⟩ => ⟨S4x1024x64, .f32⟩
  | .hbm, ⟨12, _⟩ => ⟨S4x1024x64, .bf16⟩
  | .hbm, ⟨13, _⟩ => ⟨S4x1024x64, .f32⟩
  | .hbm, ⟨14, _⟩ => ⟨S4x1024x64, .f32⟩
  | .hbm, ⟨15, _⟩ => ⟨S4x1024x64, .f32⟩
  | .hbm, ⟨16, _⟩ => ⟨S4x1024x64, .i1⟩
  | .hbm, ⟨17, _⟩ => ⟨S4x1024x64, .f32⟩
  | .hbm, ⟨18, _⟩ => ⟨S4x1024x64, .f32⟩
  | .hbm, ⟨19, _⟩ => ⟨S4x1024x64, .bf16⟩
  | .hbm, ⟨20, _⟩ => ⟨S4x1024x64, .f32⟩
  | .hbm, ⟨21, _⟩ => ⟨S_, .f32⟩
  | .hbm, ⟨22, _⟩ => ⟨S4x1024x64, .f32⟩
  | .hbm, ⟨23, _⟩ => ⟨S4x1024x64, .f32⟩
  | .hbm, ⟨24, _⟩ => ⟨S4x1024x64, .bf16⟩
  | .hbm, ⟨25, _⟩ => ⟨S4x1024x64, .f32⟩
  | .hbm, ⟨26, _⟩ => ⟨S4x1024x64, .f32⟩
  | .hbm, ⟨27, _⟩ => ⟨S4x1024x64, .f32⟩
  | .hbm, ⟨28, _⟩ => ⟨S4x1024x64, .i1⟩
  | .hbm, ⟨29, _⟩ => ⟨S4x1024x64, .f32⟩
  | .hbm, ⟨30, _⟩ => ⟨S4x1024x64, .f32⟩
  | .hbm, ⟨31, _⟩ => ⟨S4x1024x192, .f32⟩
  | .hbm, ⟨32, _⟩ => ⟨S4x1024x192, .bf16⟩
  | .hbm, ⟨33, _⟩ => ⟨S36864x64, .f32⟩
  | .hbm, ⟨34, _⟩ => ⟨S18x4x2048, .i32⟩
  | .hbm, ⟨35, _⟩ => ⟨S1x1, .f32⟩
  | .hbm, ⟨36, _⟩ => ⟨S1x1, .i32⟩
  | .hbm, ⟨37, _⟩ => ⟨S64x576x64, .f32⟩
  | .hbm, ⟨38, _⟩ => ⟨S4x18x2048, .i32⟩
  | .hbm, ⟨39, _⟩ => ⟨S4x64x576, .i32⟩
  | .hbm, ⟨40, _⟩ => ⟨S_, .f32⟩
  | .hbm, ⟨41, _⟩ => ⟨S_, .i32⟩
  | .local _ .vmem, ⟨0, _⟩ => ⟨S2048x64, .f32⟩
  | .local _ .vmem, ⟨1, _⟩ => ⟨S2048x64, .f32⟩
  | .local _ .vmem, ⟨2, _⟩ => ⟨S4x1024x64, .f32⟩
  | .local _ .vmem, ⟨3, _⟩ => ⟨S4x1024x192, .bf16⟩
  | .local _ .vmem, ⟨4, _⟩ => ⟨S4x1024x1, .f32⟩
  | .local _ .vmem, ⟨5, _⟩ => ⟨S2048x64, .f32⟩
  | .local _ .vmem, ⟨6, _⟩ => ⟨S2048x64, .f32⟩
  | .local _ .vmem, ⟨7, _⟩ => ⟨S1x4x2048, .i32⟩
  | .local _ .vmem, ⟨8, _⟩ => ⟨S1x4x2048, .i32⟩
  | .local _ .vmem, ⟨9, _⟩ => ⟨S4x1x1024, .f32⟩
  | .local _ .smem, ⟨0, _⟩ => ⟨S1x1, .f32⟩
  | .local _ .smem, ⟨1, _⟩ => ⟨S1x1, .i32⟩
  | _, _ => ⟨S64x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v28_2 : Ref sig .tc := ⟨.hbm, 35, rfl⟩
abbrev main_v28_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c17_i32 : BitVec 32 := 17#32
  let v325 : BitVec 1 := Scalar.cmpi .eq arg0 c17_i32
  let v326 : BitVec 32 := Scalar.extui v325
  let c0_i32_110 : BitVec 32 := 0#32
  let v327 : BitVec 1 := Scalar.cmpi .ne v326 c0_i32_110
  v327

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "loss_scale" => some ((5 / 9437184 : ℝ) : EReal)
  | _ => none
-- ==== ReferenceIdeal.lean ====
abbrev S64x576x64 : Shape := ⟨3, ![64, 576, 64]⟩
abbrev S4x1024x64 : Shape := ⟨3, ![4, 1024, 64]⟩
abbrev S36864x64 : Shape := ⟨2, ![36864, 64]⟩
abbrev S_ : Shape := ⟨0, ![]⟩
abbrev S1x1024x64 : Shape := ⟨3, ![1, 1024, 64]⟩
abbrev S1024x64 : Shape := ⟨2, ![1024, 64]⟩
abbrev S36864 : Shape := ⟨1, ![36864]⟩
abbrev S36864x1 : Shape := ⟨2, ![36864, 1]⟩
abbrev S64x1024 : Shape := ⟨2, ![64, 1024]⟩
abbrev S36864x1024 : Shape := ⟨2, ![36864, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S1x36864 : Shape := ⟨2, ![1, 36864]⟩
abbrev S4x36864 : Shape := ⟨2, ![4, 36864]⟩
abbrev S4x64x576 : Shape := ⟨3, ![4, 64, 576]⟩

abbrev nBuf : Space → Nat
  | .hbm => 376
  | .vmem => 0
  | .smem => 0
  | _ => 0

abbrev hbmTy0_0 (i : Nat) : BufTy := match i % 128 with
  | 0 => ⟨S64x576x64, .f32⟩
  | 1 => ⟨S4x1024x64, .f32⟩
  | 2 => ⟨S36864x64, .f32⟩
  | 3 => ⟨S_, .f32⟩
  | 4 => ⟨S36864x64, .f32⟩
  | 5 => ⟨S1x1024x64, .f32⟩
  | 6 => ⟨S1024x64, .f32⟩
  | 7 => ⟨S36864x64, .f32⟩
  | 8 => ⟨S_, .f32⟩
  | 9 => ⟨S36864, .f32⟩
  | 10 => ⟨S36864x1, .f32⟩
  | 11 => ⟨S_, .f32⟩
  | 12 => ⟨S36864x64, .f32⟩
  | 13 => ⟨S36864x64, .f32⟩
  | 14 => ⟨S64x1024, .f32⟩
  | 15 => ⟨S36864x1024, .f32⟩
  | 16 => ⟨S36864x1024, .f32⟩
  | 17 => ⟨S36864x1024, .f32⟩
  | 18 => ⟨S1024x64, .f32⟩
  | 19 => ⟨S_, .f32⟩
  | 20 => ⟨S1024, .f32⟩
  | 21 => ⟨S1024x1, .f32⟩
  | 22 => ⟨S1x1024, .f32⟩
  | 23 => ⟨S36864x1024, .f32⟩
  | 24 => ⟨S36864x1024, .f32⟩
  | 25 => ⟨S36864x1024, .i32⟩
  | 26 => ⟨S_, .f32⟩
  | 27 => ⟨S_, .i32⟩
  | 28 => ⟨S36864, .f32⟩
  | 29 => ⟨S36864, .i32⟩
  | 30 => ⟨S_, .i32⟩
  | 31 => ⟨S36864, .i32⟩
  | 32 => ⟨S36864, .i1⟩
  | 33 => ⟨S_, .i32⟩
  | 34 => ⟨S36864, .i32⟩
  | 35 => ⟨S36864, .i32⟩
  | 36 => ⟨S36864, .i32⟩
  | 37 => ⟨S36864x1, .i32⟩
  | 38 => ⟨S1, .i32⟩
  | 39 => ⟨S_, .i32⟩
  | 40 => ⟨S36864x1, .i32⟩
  | 41 => ⟨S36864x1, .i1⟩
  | 42 => ⟨S1x1, .i32⟩
  | 43 => ⟨S36864x1, .i32⟩
  | 44 => ⟨S36864x1, .i1⟩
  | 45 => ⟨S36864x1, .i1⟩
  | 46 => ⟨S_, .i1⟩
  | 47 => ⟨S36864, .i1⟩
  | 48 => ⟨S36864x64, .f32⟩
  | 49 => ⟨S36864x64, .i1⟩
  | 50 => ⟨S_, .f32⟩
  | 51 => ⟨S36864x64, .f32⟩
  | 52 => ⟨S36864x64, .f32⟩
  | 53 => ⟨S36864x64, .f32⟩
  | 54 => ⟨S36864x64, .f32⟩
  | 55 => ⟨S_, .f32⟩
  | 56 => ⟨S_, .f32⟩
  | 57 => ⟨S_, .f32⟩
  | 58 => ⟨S_, .f32⟩
  | 59 => ⟨S36864x64, .f32⟩
  | 60 => ⟨S36864x64, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .i32⟩
  | 71 => ⟨S1024, .i32⟩
  | 72 => ⟨S_, .i32⟩
  | 73 => ⟨S_, .i32⟩
  | 74 => ⟨S36864, .i32⟩
  | 75 => ⟨S36864, .i32⟩
  | 76 => ⟨S_, .i32⟩
  | 77 => ⟨S36864, .i32⟩
  | 78 => ⟨S36864, .i1⟩
  | 79 => ⟨S_, .i32⟩
  | 80 => ⟨S36864, .i32⟩
  | 81 => ⟨S36864, .i32⟩
  | 82 => ⟨S36864, .i32⟩
  | 83 => ⟨S36864x1, .i32⟩
  | 84 => ⟨S_, .i32⟩
  | 85 => ⟨S36864, .i32⟩
  | 86 => ⟨S1024, .i32⟩
  | 87 => ⟨S_, .i32⟩
  | 88 => ⟨S1024, .i32⟩
  | 89 => ⟨S1024, .i1⟩
  | 90 => ⟨S1024, .i32⟩
  | 91 => ⟨S_, .i32⟩
  | 92 => ⟨S_, .i32⟩
  | 93 => ⟨S_, .i32⟩
  | 94 => ⟨S_, .i32⟩
  | 95 => ⟨S36864x64, .f32⟩
  | 96 => ⟨S36864x64, .f32⟩
  | 97 => ⟨S1x1024x64, .f32⟩
  | 98 => ⟨S1024x64, .f32⟩
  | 99 => ⟨S36864x64, .f32⟩
  | 100 => ⟨S_, .f32⟩
  | 101 => ⟨S36864, .f32⟩
  | 102 => ⟨S36864x1, .f32⟩
  | 103 => ⟨S_, .f32⟩
  | 104 => ⟨S36864x64, .f32⟩
  | 105 => ⟨S36864x64, .f32⟩
  | 106 => ⟨S64x1024, .f32⟩
  | 107 => ⟨S36864x1024, .f32⟩
  | 108 => ⟨S36864x1024, .f32⟩
  | 109 => ⟨S36864x1024, .f32⟩
  | 110 => ⟨S1024x64, .f32⟩
  | 111 => ⟨S_, .f32⟩
  | 112 => ⟨S1024, .f32⟩
  | 113 => ⟨S1024x1, .f32⟩
  | 114 => ⟨S1x1024, .f32⟩
  | 115 => ⟨S36864x1024, .f32⟩
  | 116 => ⟨S36864x1024, .f32⟩
  | 117 => ⟨S36864x1024, .i32⟩
  | 118 => ⟨S_, .f32⟩
  | 119 => ⟨S_, .i32⟩
  | 120 => ⟨S36864, .f32⟩
  | 121 => ⟨S36864, .i32⟩
  | 122 => ⟨S_, .i32⟩
  | 123 => ⟨S36864, .i32⟩
  | 124 => ⟨S36864, .i1⟩
  | 125 => ⟨S_, .i32⟩
  | 126 => ⟨S36864, .i32⟩
  | 127 => ⟨S36864, .i32⟩
  | _ => ⟨S64x576x64, .f32⟩

abbrev hbmTy0_1 (i : Nat) : BufTy := match i % 128 with
  | 0 => ⟨S36864, .i32⟩
  | 1 => ⟨S36864x1, .i32⟩
  | 2 => ⟨S1, .i32⟩
  | 3 => ⟨S_, .i32⟩
  | 4 => ⟨S36864x1, .i32⟩
  | 5 => ⟨S36864x1, .i1⟩
  | 6 => ⟨S1x1, .i32⟩
  | 7 => ⟨S36864x1, .i32⟩
  | 8 => ⟨S36864x1, .i1⟩
  | 9 => ⟨S36864x1, .i1⟩
  | 10 => ⟨S_, .i1⟩
  | 11 => ⟨S36864, .i1⟩
  | 12 => ⟨S36864x64, .f32⟩
  | 13 => ⟨S36864x64, .i1⟩
  | 14 => ⟨S_, .f32⟩
  | 15 => ⟨S36864x64, .f32⟩
  | 16 => ⟨S36864x64, .f32⟩
  | 17 => ⟨S36864x64, .f32⟩
  | 18 => ⟨S36864x64, .f32⟩
  | 19 => ⟨S_, .f32⟩
  | 20 => ⟨S_, .f32⟩
  | 21 => ⟨S_, .f32⟩
  | 22 => ⟨S_, .f32⟩
  | 23 => ⟨S36864x64, .f32⟩
  | 24 => ⟨S36864x64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i32⟩
  | 34 => ⟨S1024, .i32⟩
  | 35 => ⟨S_, .i32⟩
  | 36 => ⟨S_, .i32⟩
  | 37 => ⟨S36864, .i32⟩
  | 38 => ⟨S36864, .i32⟩
  | 39 => ⟨S_, .i32⟩
  | 40 => ⟨S36864, .i32⟩
  | 41 => ⟨S36864, .i1⟩
  | 42 => ⟨S_, .i32⟩
  | 43 => ⟨S36864, .i32⟩
  | 44 => ⟨S36864, .i32⟩
  | 45 => ⟨S36864, .i32⟩
  | 46 => ⟨S36864x1, .i32⟩
  | 47 => ⟨S_, .i32⟩
  | 48 => ⟨S36864, .i32⟩
  | 49 => ⟨S1024, .i32⟩
  | 50 => ⟨S_, .i32⟩
  | 51 => ⟨S1024, .i32⟩
  | 52 => ⟨S1024, .i1⟩
  | 53 => ⟨S1024, .i32⟩
  | 54 => ⟨S_, .i32⟩
  | 55 => ⟨S_, .i32⟩
  | 56 => ⟨S_, .i32⟩
  | 57 => ⟨S36864x64, .f32⟩
  | 58 => ⟨S36864x64, .f32⟩
  | 59 => ⟨S1x1024x64, .f32⟩
  | 60 => ⟨S1024x64, .f32⟩
  | 61 => ⟨S36864x64, .f32⟩
  | 62 => ⟨S_, .f32⟩
  | 63 => ⟨S36864, .f32⟩
  | 64 => ⟨S36864x1, .f32⟩
  | 65 => ⟨S_, .f32⟩
  | 66 => ⟨S36864x64, .f32⟩
  | 67 => ⟨S36864x64, .f32⟩
  | 68 => ⟨S64x1024, .f32⟩
  | 69 => ⟨S36864x1024, .f32⟩
  | 70 => ⟨S36864x1024, .f32⟩
  | 71 => ⟨S36864x1024, .f32⟩
  | 72 => ⟨S1024x64, .f32⟩
  | 73 => ⟨S_, .f32⟩
  | 74 => ⟨S1024, .f32⟩
  | 75 => ⟨S1024x1, .f32⟩
  | 76 => ⟨S1x1024, .f32⟩
  | 77 => ⟨S36864x1024, .f32⟩
  | 78 => ⟨S36864x1024, .f32⟩
  | 79 => ⟨S36864x1024, .i32⟩
  | 80 => ⟨S_, .f32⟩
  | 81 => ⟨S_, .i32⟩
  | 82 => ⟨S36864, .f32⟩
  | 83 => ⟨S36864, .i32⟩
  | 84 => ⟨S_, .i32⟩
  | 85 => ⟨S36864, .i32⟩
  | 86 => ⟨S36864, .i1⟩
  | 87 => ⟨S_, .i32⟩
  | 88 => ⟨S36864, .i32⟩
  | 89 => ⟨S36864, .i32⟩
  | 90 => ⟨S36864, .i32⟩
  | 91 => ⟨S36864x1, .i32⟩
  | 92 => ⟨S1, .i32⟩
  | 93 => ⟨S_, .i32⟩
  | 94 => ⟨S36864x1, .i32⟩
  | 95 => ⟨S36864x1, .i1⟩
  | 96 => ⟨S1x1, .i32⟩
  | 97 => ⟨S36864x1, .i32⟩
  | 98 => ⟨S36864x1, .i1⟩
  | 99 => ⟨S36864x1, .i1⟩
  | 100 => ⟨S_, .i1⟩
  | 101 => ⟨S36864, .i1⟩
  | 102 => ⟨S36864x64, .f32⟩
  | 103 => ⟨S36864x64, .i1⟩
  | 104 => ⟨S_, .f32⟩
  | 105 => ⟨S36864x64, .f32⟩
  | 106 => ⟨S36864x64, .f32⟩
  | 107 => ⟨S36864x64, .f32⟩
  | 108 => ⟨S36864x64, .f32⟩
  | 109 => ⟨S_, .f32⟩
  | 110 => ⟨S_, .f32⟩
  | 111 => ⟨S_, .f32⟩
  | 112 => ⟨S_, .f32⟩
  | 113 => ⟨S36864x64, .f32⟩
  | 114 => ⟨S36864x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i32⟩
  | 124 => ⟨S1024, .i32⟩
  | 125 => ⟨S_, .i32⟩
  | 126 => ⟨S_, .i32⟩
  | 127 => ⟨S36864, .i32⟩
  | _ => ⟨S64x576x64, .f32⟩

abbrev hbmTy0_2 (i : Nat) : BufTy := match i % 128 with
  | 0 => ⟨S36864, .i32⟩
  | 1 => ⟨S_, .i32⟩
  | 2 => ⟨S36864, .i32⟩
  | 3 => ⟨S36864, .i1⟩
  | 4 => ⟨S_, .i32⟩
  | 5 => ⟨S36864, .i32⟩
  | 6 => ⟨S36864, .i32⟩
  | 7 => ⟨S36864, .i32⟩
  | 8 => ⟨S36864x1, .i32⟩
  | 9 => ⟨S_, .i32⟩
  | 10 => ⟨S36864, .i32⟩
  | 11 => ⟨S1024, .i32⟩
  | 12 => ⟨S_, .i32⟩
  | 13 => ⟨S1024, .i32⟩
  | 14 => ⟨S1024, .i1⟩
  | 15 => ⟨S1024, .i32⟩
  | 16 => ⟨S_, .i32⟩
  | 17 => ⟨S_, .i32⟩
  | 18 => ⟨S_, .i32⟩
  | 19 => ⟨S36864x64, .f32⟩
  | 20 => ⟨S36864x64, .f32⟩
  | 21 => ⟨S1x1024x64, .f32⟩
  | 22 => ⟨S1024x64, .f32⟩
  | 23 => ⟨S36864x64, .f32⟩
  | 24 => ⟨S_, .f32⟩
  | 25 => ⟨S36864, .f32⟩
  | 26 => ⟨S36864x1, .f32⟩
  | 27 => ⟨S_, .f32⟩
  | 28 => ⟨S36864x64, .f32⟩
  | 29 => ⟨S36864x64, .f32⟩
  | 30 => ⟨S64x1024, .f32⟩
  | 31 => ⟨S36864x1024, .f32⟩
  | 32 => ⟨S36864x1024, .f32⟩
  | 33 => ⟨S36864x1024, .f32⟩
  | 34 => ⟨S1024x64, .f32⟩
  | 35 => ⟨S_, .f32⟩
  | 36 => ⟨S1024, .f32⟩
  | 37 => ⟨S1024x1, .f32⟩
  | 38 => ⟨S1x1024, .f32⟩
  | 39 => ⟨S36864x1024, .f32⟩
  | 40 => ⟨S36864x1024, .f32⟩
  | 41 => ⟨S36864x1024, .i32⟩
  | 42 => ⟨S_, .f32⟩
  | 43 => ⟨S_, .i32⟩
  | 44 => ⟨S36864, .f32⟩
  | 45 => ⟨S36864, .i32⟩
  | 46 => ⟨S_, .i32⟩
  | 47 => ⟨S36864, .i32⟩
  | 48 => ⟨S36864, .i1⟩
  | 49 => ⟨S_, .i32⟩
  | 50 => ⟨S36864, .i32⟩
  | 51 => ⟨S36864, .i32⟩
  | 52 => ⟨S36864, .i32⟩
  | 53 => ⟨S36864x1, .i32⟩
  | 54 => ⟨S1, .i32⟩
  | 55 => ⟨S_, .i32⟩
  | 56 => ⟨S36864x1, .i32⟩
  | 57 => ⟨S36864x1, .i1⟩
  | 58 => ⟨S1x1, .i32⟩
  | 59 => ⟨S36864x1, .i32⟩
  | 60 => ⟨S36864x1, .i1⟩
  | 61 => ⟨S36864x1, .i1⟩
  | 62 => ⟨S_, .i1⟩
  | 63 => ⟨S36864, .i1⟩
  | 64 => ⟨S36864x64, .f32⟩
  | 65 => ⟨S36864x64, .i1⟩
  | 66 => ⟨S_, .f32⟩
  | 67 => ⟨S36864x64, .f32⟩
  | 68 => ⟨S36864x64, .f32⟩
  | 69 => ⟨S36864x64, .f32⟩
  | 70 => ⟨S36864x64, .f32⟩
  | 71 => ⟨S_, .f32⟩
  | 72 => ⟨S_, .f32⟩
  | 73 => ⟨S_, .f32⟩
  | 74 => ⟨S_, .f32⟩
  | 75 => ⟨S36864x64, .f32⟩
  | 76 => ⟨S36864x64, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i32⟩
  | 86 => ⟨S1024, .i32⟩
  | 87 => ⟨S_, .i32⟩
  | 88 => ⟨S_, .i32⟩
  | 89 => ⟨S36864, .i32⟩
  | 90 => ⟨S36864, .i32⟩
  | 91 => ⟨S_, .i32⟩
  | 92 => ⟨S36864, .i32⟩
  | 93 => ⟨S36864, .i1⟩
  | 94 => ⟨S_, .i32⟩
  | 95 => ⟨S36864, .i32⟩
  | 96 => ⟨S36864, .i32⟩
  | 97 => ⟨S36864, .i32⟩
  | 98 => ⟨S36864x1, .i32⟩
  | 99 => ⟨S_, .i32⟩
  | 100 => ⟨S36864, .i32⟩
  | 101 => ⟨S1024, .i32⟩
  | 102 => ⟨S_, .i32⟩
  | 103 => ⟨S1024, .i32⟩
  | 104 => ⟨S1024, .i1⟩
  | 105 => ⟨S1024, .i32⟩
  | 106 => ⟨S_, .i32⟩
  | 107 => ⟨S_, .i32⟩
  | 108 => ⟨S_, .i32⟩
  | 109 => ⟨S36864x64, .f32⟩
  | 110 => ⟨S36864x64, .f32⟩
  | 111 => ⟨S36864x64, .f32⟩
  | 112 => ⟨S36864x64, .f32⟩
  | 113 => ⟨S64x576x64, .f32⟩
  | 114 => ⟨S1x36864, .i32⟩
  | 115 => ⟨S1x36864, .i32⟩
  | 116 => ⟨S1x36864, .i32⟩
  | 117 => ⟨S1x36864, .i32⟩
  | 118 => ⟨S4x36864, .i32⟩
  | 119 => ⟨S4x64x576, .i32⟩
  | _ => ⟨S64x576x64, .f32⟩

abbrev hbmTy (i : Nat) : BufTy := match i / 128 with
  | 0 => hbmTy0_0 i
  | 1 => hbmTy0_1 i
  | 2 => hbmTy0_2 i
  | _ => ⟨S64x576x64, .f32⟩

abbrev bufTy : (tb : Table) → Fin (tcTables nBuf tb) → BufTy
  | .hbm, ⟨i, _⟩ => hbmTy i
  | _, _ => ⟨S64x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_v30 : Ref sig .tc := ⟨.hbm, 67, rfl⟩
abbrev main_cst_8 : Ref sig .tc := ⟨.hbm, 68, rfl⟩
abbrev main_v31 : Ref sig .tc := ⟨.hbm, 69, rfl⟩
abbrev main_c : Ref sig .tc := ⟨.hbm, 70, rfl⟩
abbrev main_v32 : Ref sig .tc := ⟨.hbm, 71, rfl⟩
abbrev main_c_9 : Ref sig .tc := ⟨.hbm, 72, rfl⟩
abbrev main_call2_v0 : Ref sig .tc := ⟨.hbm, 73, rfl⟩
abbrev main_call2_v1 : Ref sig .tc := ⟨.hbm, 74, rfl⟩
abbrev main_v33 : Ref sig .tc := ⟨.hbm, 75, rfl⟩
abbrev main_c_10 : Ref sig .tc := ⟨.hbm, 76, rfl⟩
abbrev main_v34 : Ref sig .tc := ⟨.hbm, 77, rfl⟩
abbrev main_v35 : Ref sig .tc := ⟨.hbm, 78, rfl⟩
abbrev main_c_11 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_12 : Ref sig .tc := ⟨.hbm, 84, rfl⟩
abbrev main_v40 : Ref sig .tc := ⟨.hbm, 85, rfl⟩
abbrev main_v41 : Ref sig .tc := ⟨.hbm, 86, rfl⟩
abbrev main_c_13 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_c_14 : Ref sig .tc := ⟨.hbm, 91, rfl⟩
abbrev main_v45 : Ref sig .tc := ⟨.hbm, 92, rfl⟩
abbrev main_c_15 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_16 : Ref sig .tc := ⟨.hbm, 100, rfl⟩
abbrev main_v52 : Ref sig .tc := ⟨.hbm, 101, rfl⟩
abbrev main_v53 : Ref sig .tc := ⟨.hbm, 102, rfl⟩
abbrev main_cst_17 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_18 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_call3_v0 : Ref sig .tc := ⟨.hbm, 117, rfl⟩
abbrev main_call3_cst : Ref sig .tc := ⟨.hbm, 118, rfl⟩
abbrev main_call3_c : Ref sig .tc := ⟨.hbm, 119, rfl⟩
abbrev main_call3_v1_0 : Ref sig .tc := ⟨.hbm, 120, rfl⟩
abbrev main_v66 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_19 : Ref sig .tc := ⟨.hbm, 147, rfl⟩
abbrev main_v70 : Ref sig .tc := ⟨.hbm, 148, rfl⟩
abbrev main_cst_20 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_21 : Ref sig .tc := ⟨.hbm, 153, rfl⟩
abbrev main_v74 : Ref sig .tc := ⟨.hbm, 154, rfl⟩
abbrev main_cst_22 : Ref sig .tc := ⟨.hbm, 155, rfl⟩
abbrev main_v75 : Ref sig .tc := ⟨.hbm, 156, rfl⟩
abbrev main_cst_23 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_c_24 : Ref sig .tc := ⟨.hbm, 161, rfl⟩
abbrev main_v79 : Ref sig .tc := ⟨.hbm, 162, rfl⟩
abbrev main_c_25 : Ref sig .tc := ⟨.hbm, 163, rfl⟩
abbrev main_call5_v0 : Ref sig .tc := ⟨.hbm, 164, rfl⟩
abbrev main_call5_v1 : Ref sig .tc := ⟨.hbm, 165, rfl⟩
abbrev main_v80 : Ref sig .tc := ⟨.hbm, 166, rfl⟩
abbrev main_c_26 : Ref sig .tc := ⟨.hbm, 167, rfl⟩
abbrev main_v81 : Ref sig .tc := ⟨.hbm, 168, rfl⟩
abbrev main_v82 : Ref sig .tc := ⟨.hbm, 169, rfl⟩
abbrev main_c_27 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_c_28 : Ref sig .tc := ⟨.hbm, 175, rfl⟩
abbrev main_v87 : Ref sig .tc := ⟨.hbm, 176, rfl⟩
abbrev main_v88 : Ref sig .tc := ⟨.hbm, 177, rfl⟩
abbrev main_c_29 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_c_30 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_31 : Ref sig .tc := ⟨.hbm, 190, rfl⟩
abbrev main_v99 : Ref sig .tc := ⟨.hbm, 191, rfl⟩
abbrev main_v100 : Ref sig .tc := ⟨.hbm, 192, rfl⟩
abbrev main_cst_32 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_33 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_call6_v0 : Ref sig .tc := ⟨.hbm, 207, rfl⟩
abbrev main_call6_cst : Ref sig .tc := ⟨.hbm, 208, rfl⟩
abbrev main_call6_c : Ref sig .tc := ⟨.hbm, 209, rfl⟩
abbrev main_call6_v1_0 : Ref sig .tc := ⟨.hbm, 210, rfl⟩
abbrev main_v113 : Ref sig .tc := ⟨.hbm, 211, rfl⟩
abbrev main_call7_c : Ref sig .tc := ⟨.hbm, 212, rfl⟩
abbrev main_call7_v0 : Ref sig .tc := ⟨.hbm, 213, rfl⟩
abbrev main_call7_v1 : Ref sig .tc := ⟨.hbm, 214, rfl⟩
abbrev main_call7_c_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_v5 : Ref sig .tc := ⟨.hbm, 219, rfl⟩
abbrev main_call7_c_1 : Ref sig .tc := ⟨.hbm, 220, rfl⟩
abbrev main_call7_c_2 : Ref sig .tc := ⟨.hbm, 221, rfl⟩
abbrev main_call7_v6 : Ref sig .tc := ⟨.hbm, 222, rfl⟩
abbrev main_call7_v7 : Ref sig .tc := ⟨.hbm, 223, rfl⟩
abbrev main_call7_v8 : Ref sig .tc := ⟨.hbm, 224, rfl⟩
abbrev main_call7_v9 : Ref sig .tc := ⟨.hbm, 225, rfl⟩
abbrev main_call7_v10 : Ref sig .tc := ⟨.hbm, 226, rfl⟩
abbrev main_call7_v11 : Ref sig .tc := ⟨.hbm, 227, rfl⟩
abbrev main_call7_c_3 : Ref sig .tc := ⟨.hbm, 228, rfl⟩
abbrev main_call7_v12 : Ref sig .tc := ⟨.hbm, 229, rfl⟩
abbrev main_call7_v13 : Ref sig .tc := ⟨.hbm, 230, rfl⟩
abbrev main_call7_v14 : Ref sig .tc := ⟨.hbm, 231, rfl⟩
abbrev main_call7_cst : Ref sig .tc := ⟨.hbm, 232, rfl⟩
abbrev main_call7_v15 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_cst_34 : Ref sig .tc := ⟨.hbm, 237, rfl⟩
abbrev main_v117 : Ref sig .tc := ⟨.hbm, 238, rfl⟩
abbrev main_cst_35 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_cst_36 : Ref sig .tc := ⟨.hbm, 243, rfl⟩
abbrev main_v121 : Ref sig .tc := ⟨.hbm, 244, rfl⟩
abbrev main_cst_37 : Ref sig .tc := ⟨.hbm, 245, rfl⟩
abbrev main_v122 : Ref sig .tc := ⟨.hbm, 246, rfl⟩
abbrev main_cst_38 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_c_39 : Ref sig .tc := ⟨.hbm, 251, rfl⟩
abbrev main_v126 : Ref sig .tc := ⟨.hbm, 252, rfl⟩
abbrev main_c_40 : Ref sig .tc := ⟨.hbm, 253, rfl⟩
abbrev main_call8_v0 : Ref sig .tc := ⟨.hbm, 254, rfl⟩
abbrev main_call8_v1 : Ref sig .tc := ⟨.hbm, 255, rfl⟩
abbrev main_v127 : Ref sig .tc := ⟨.hbm, 256, rfl⟩
abbrev main_c_41 : Ref sig .tc := ⟨.hbm, 257, rfl⟩
abbrev main_v128 : Ref sig .tc := ⟨.hbm, 258, rfl⟩
abbrev main_v129 : Ref sig .tc := ⟨.hbm, 259, rfl⟩
abbrev main_c_42 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_c_43 : Ref sig .tc := ⟨.hbm, 265, rfl⟩
abbrev main_v134 : Ref sig .tc := ⟨.hbm, 266, rfl⟩
abbrev main_v135 : Ref sig .tc := ⟨.hbm, 267, rfl⟩
abbrev main_c_44 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_c_45 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_cst_46 : Ref sig .tc := ⟨.hbm, 280, rfl⟩
abbrev main_v146 : Ref sig .tc := ⟨.hbm, 281, rfl⟩
abbrev main_v147 : Ref sig .tc := ⟨.hbm, 282, rfl⟩
abbrev main_cst_47 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_cst_48 : Ref sig .tc := ⟨.hbm, 291, rfl⟩
abbrev main_v155 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_call9_v0 : Ref sig .tc := ⟨.hbm, 297, rfl⟩
abbrev main_call9_cst : Ref sig .tc := ⟨.hbm, 298, rfl⟩
abbrev main_call9_c : Ref sig .tc := ⟨.hbm, 299, rfl⟩
abbrev main_call9_v1_0 : Ref sig .tc := ⟨.hbm, 300, rfl⟩
abbrev main_v160 : Ref sig .tc := ⟨.hbm, 301, rfl⟩
abbrev main_call10_c : Ref sig .tc := ⟨.hbm, 302, rfl⟩
abbrev main_call10_v0 : Ref sig .tc := ⟨.hbm, 303, rfl⟩
abbrev main_call10_v1 : Ref sig .tc := ⟨.hbm, 304, rfl⟩
abbrev main_call10_c_0 : Ref sig .tc := ⟨.hbm, 305, rfl⟩
abbrev main_call10_v2 : Ref sig .tc := ⟨.hbm, 306, rfl⟩
abbrev main_call10_v3 : Ref sig .tc := ⟨.hbm, 307, rfl⟩
abbrev main_call10_v4 : Ref sig .tc := ⟨.hbm, 308, rfl⟩
abbrev main_call10_v5 : Ref sig .tc := ⟨.hbm, 309, rfl⟩
abbrev main_call10_c_1 : Ref sig .tc := ⟨.hbm, 310, rfl⟩
abbrev main_call10_c_2 : Ref sig .tc := ⟨.hbm, 311, rfl⟩
abbrev main_call10_v6 : Ref sig .tc := ⟨.hbm, 312, rfl⟩
abbrev main_call10_v7 : Ref sig .tc := ⟨.hbm, 313, rfl⟩
abbrev main_call10_v8 : Ref sig .tc := ⟨.hbm, 314, rfl⟩
abbrev main_call10_v9 : Ref sig .tc := ⟨.hbm, 315, rfl⟩
abbrev main_call10_v10 : Ref sig .tc := ⟨.hbm, 316, rfl⟩
abbrev main_call10_v11 : Ref sig .tc := ⟨.hbm, 317, rfl⟩
abbrev main_call10_c_3 : Ref sig .tc := ⟨.hbm, 318, rfl⟩
abbrev main_call10_v12 : Ref sig .tc := ⟨.hbm, 319, rfl⟩
abbrev main_call10_v13 : Ref sig .tc := ⟨.hbm, 320, rfl⟩
abbrev main_call10_v14 : Ref sig .tc := ⟨.hbm, 321, rfl⟩
abbrev main_call10_cst : Ref sig .tc := ⟨.hbm, 322, rfl⟩
abbrev main_call10_v15 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_cst_49 : Ref sig .tc := ⟨.hbm, 327, rfl⟩
abbrev main_v164 : Ref sig .tc := ⟨.hbm, 328, rfl⟩
abbrev main_cst_50 : Ref sig .tc := ⟨.hbm, 329, rfl⟩
abbrev main_v165 : Ref sig .tc := ⟨.hbm, 330, rfl⟩
abbrev main_v166 : Ref sig .tc := ⟨.hbm, 331, rfl⟩
abbrev main_v167 : Ref sig .tc := ⟨.hbm, 332, rfl⟩
abbrev main_cst_51 : Ref sig .tc := ⟨.hbm, 333, rfl⟩
abbrev main_v168 : Ref sig .tc := ⟨.hbm, 334, rfl⟩
abbrev main_cst_52 : Ref sig .tc := ⟨.hbm, 335, rfl⟩
abbrev main_v169 : Ref sig .tc := ⟨.hbm, 336, rfl⟩
abbrev main_cst_53 : Ref sig .tc := ⟨.hbm, 337, rfl⟩
abbrev main_v170 : Ref sig .tc := ⟨.hbm, 338, rfl⟩
abbrev main_v171 : Ref sig .tc := ⟨.hbm, 339, rfl⟩
abbrev main_v172 : Ref sig .tc := ⟨.hbm, 340, rfl⟩
abbrev main_c_54 : Ref sig .tc := ⟨.hbm, 341, rfl⟩
abbrev main_v173 : Ref sig .tc := ⟨.hbm, 342, rfl⟩
abbrev main_c_55 : Ref sig .tc := ⟨.hbm, 343, rfl⟩
abbrev main_call11_v0 : Ref sig .tc := ⟨.hbm, 344, rfl⟩
abbrev main_call11_v1 : Ref sig .tc := ⟨.hbm, 345, rfl⟩
abbrev main_v174 : Ref sig .tc := ⟨.hbm, 346, rfl⟩
abbrev main_c_56 : Ref sig .tc := ⟨.hbm, 347, rfl⟩
abbrev main_v175 : Ref sig .tc := ⟨.hbm, 348, rfl⟩
abbrev main_v176 : Ref sig .tc := ⟨.hbm, 349, rfl⟩
abbrev main_c_57 : Ref sig .tc := ⟨.hbm, 350, rfl⟩
abbrev main_v177 : Ref sig .tc := ⟨.hbm, 351, rfl⟩
abbrev main_v178 : Ref sig .tc := ⟨.hbm, 352, rfl⟩
abbrev main_v179 : Ref sig .tc := ⟨.hbm, 353, rfl⟩
abbrev main_v180 : Ref sig .tc := ⟨.hbm, 354, rfl⟩
abbrev main_c_58 : Ref sig .tc := ⟨.hbm, 355, rfl⟩
abbrev main_v181 : Ref sig .tc := ⟨.hbm, 356, rfl⟩
abbrev main_v182 : Ref sig .tc := ⟨.hbm, 357, rfl⟩
abbrev main_c_59 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_c_60 : Ref sig .tc := ⟨.hbm, 362, rfl⟩
abbrev main_v186 : Ref sig .tc := ⟨.hbm, 363, rfl⟩
abbrev main_v187 : Ref sig .tc := ⟨.hbm, 364, rfl⟩
abbrev main_v188 : Ref sig .tc := ⟨.hbm, 365, rfl⟩
abbrev main_v189 : Ref sig .tc := ⟨.hbm, 366, rfl⟩
abbrev main_v190 : Ref sig .tc := ⟨.hbm, 367, rfl⟩
abbrev main_v191 : Ref sig .tc := ⟨.hbm, 368, rfl⟩
abbrev main_v192 : Ref sig .tc := ⟨.hbm, 369, rfl⟩
abbrev main_v193 : Ref sig .tc := ⟨.hbm, 370, rfl⟩
abbrev main_v194 : Ref sig .tc := ⟨.hbm, 371, rfl⟩
abbrev main_v195 : Ref sig .tc := ⟨.hbm, 372, rfl⟩
abbrev main_v196 : Ref sig .tc := ⟨.hbm, 373, rfl⟩
abbrev main_v197 : Ref sig .tc := ⟨.hbm, 374, rfl⟩
abbrev main_v198 : Ref sig .tc := ⟨.hbm, 375, rfl⟩

abbrev nD : Nat := 1
abbrev τ : Topo := Topo.v7x

variable {F : FTy → Type} [FloatOps F]
-- ==== Proof.KHost.lean ====
module

public import proofs.«01_k».proof.Proof.Gen.KernelIdeal.Frame

/-!
What the host operations before the kernel compute: the rows of the first argument, the squared norms of the
codes, and the split of the codes in three parts.
-/

@[expose] public section

set_option maxRecDepth 16384

noncomputable section

namespace Cert.KVal
open Idealize.ShloMosaic Idealize.ShloMosaic.TcCoe Idealize.SL.Sem Cert.KernelIdeal Cert.KernelIdeal.Gen
open Idealize.ShloMosaic.StableHlo

variable {F : FTy → Type} [FloatOps F] [Named F]

/-- A value rounded to sixteen bits and no farther from zero than it was. -/
def cutF (v : (⟨S4x1024x64, .f32⟩ : BufTy).Contents (Elt F)) : (⟨S4x1024x64, .f32⟩ : BufTy).Contents (Elt F) :=
  select (cmpf .ogt (Host.absf (extf .f32 (truncf .bf16 v bitsLt_bf16_f32) bitsLt_bf16_f32)) (Host.absf v))
    (extf .f32 (truncf .bf16 (mulf (extf .f32 (truncf .bf16 v bitsLt_bf16_f32) bitsLt_bf16_f32)
      (broadcastInDim S4x1024x64 ![] bcast_S_S4x1024x64 (constant S_ .f32 0x3F7F0000#32))) bitsLt_bf16_f32)
      bitsLt_bf16_f32)
    (extf .f32 (truncf .bf16 v bitsLt_bf16_f32) bitsLt_bf16_f32)

/-- The codes split in three parts, laid side by side. -/
def splitF (cb : (⟨S4x1024x64, .f32⟩ : BufTy).Contents (Elt F)) : (⟨S4x1024x192, .bf16⟩ : BufTy).Contents (Elt F) :=
  truncf .bf16 (concatenate S4x1024x192 2 [⟨S4x1024x64, cutF cb⟩, ⟨S4x1024x64, cutF (subf cb (cutF cb))⟩,
    ⟨S4x1024x64, subf (subf cb (cutF cb)) (cutF (subf cb (cutF cb)))⟩]
    concatenates_S4x1024x64_S4x1024x64_S4x1024x64_S4x1024x192_d2) bitsLt_bf16_f32

/-- The squared norms of the codes. -/
def normF (cb : (⟨S4x1024x64, .f32⟩ : BufTy).Contents (Elt F)) : (⟨S4x1024x1, .f32⟩ : BufTy).Contents (Elt F) :=
  broadcastInDim S4x1024x1 ![0, 1] bcast_S4x1024_S4x1024x1_0_1
    (Host.reduceAdd (mulf cb cb) (constant S_ .f32 0x00000000#32) reducesTo_S4x1024x64_S4x1024_d2 h_S_)

set_option maxHeartbeats 2000000 in
theorem readHost (W : Valuation τ sig (Elt F)) :
    after (List.flatten [hostOps0, hostOps0_1, hostOps0_2, hostOps0_3, hostOps0_4]) W (Proc.devRef .tc main_v0) =
      (shapeCast S36864x64 (W (Proc.devRef .tc main_arg0)) shapeCasts_S64x576x64_S36864x64 :
        (⟨S36864x64, .f32⟩ : BufTy).Contents (Elt F)) ∧
    after (List.flatten [hostOps0, hostOps0_1, hostOps0_2, hostOps0_3, hostOps0_4]) W (Proc.devRef .tc main_v3) =
      normF (W (Proc.devRef .tc main_arg1)) ∧
    after (List.flatten [hostOps0, hostOps0_1, hostOps0_2, hostOps0_3, hostOps0_4]) W (Proc.devRef .tc main_v27) =
      splitF (W (Proc.devRef .tc main_arg1)) := by
  simp only [hostOps0, hostOps0_1, hostOps0_2, hostOps0_3, hostOps0_4, List.flatten_cons, List.flatten_nil,
    List.append_nil, List.cons_append, List.nil_append]
  after_results_simp
  try dsimp only [Matrix.cons_val]
  (repeat' apply And.intro) <;> first | rfl | trivial

end Cert.KVal
-- ==== Proof.KOps.lean ====
module

public import proofs.«01_k».proof.Proof.Gen.KernelIdeal.Skeleton
public import Idealize.ShloMosaic.Lib.Pipeline.ValueKit

/-!
One level of the residual quantizer on a block of 2048 rows held as columns, as the kernel computes it:
the squared distances, the index of the nearest code, the one-hot matrix, the row that it selects, and
the four-level recursion over these.
-/

@[expose] public section

set_option maxRecDepth 16384

noncomputable section

namespace Cert.KVal
open Idealize.ShloMosaic Idealize.SL.Sem Cert.KernelIdeal Cert.KernelIdeal.Gen

variable {F : FTy → Type} [FloatOps F]

/-- The row number of each entry of a 1024 by 2048 matrix. -/
def lane : IVec S1024x2048 32 := iota .tc S1024x2048 32 [0] iota_S1024x2048_d0_w32

/-- The sum over the 64 rows of `s`, added eight rows at a time and then in halves. -/
def colSum (s : FVec F S64x2048 .f32) : FVec F S1x2048 .f32 :=
  let a := addf (addf (addf (addf (addf (addf (addf
    (extractStridedSlice S8x2048 ![0, 0] s slices_S64x2048_o0_0_S8x2048)
    (extractStridedSlice S8x2048 ![8, 0] s slices_S64x2048_o8_0_S8x2048))
    (extractStridedSlice S8x2048 ![16, 0] s slices_S64x2048_o16_0_S8x2048))
    (extractStridedSlice S8x2048 ![24, 0] s slices_S64x2048_o24_0_S8x2048))
    (extractStridedSlice S8x2048 ![32, 0] s slices_S64x2048_o32_0_S8x2048))
    (extractStridedSlice S8x2048 ![40, 0] s slices_S64x2048_o40_0_S8x2048))
    (extractStridedSlice S8x2048 ![48, 0] s slices_S64x2048_o48_0_S8x2048))
    (extractStridedSlice S8x2048 ![56, 0] s slices_S64x2048_o56_0_S8x2048)
  let b := addf (extractStridedSlice S4x2048 ![0, 0] a slices_S8x2048_o0_0_S4x2048)
    (extractStridedSlice S4x2048 ![4, 0] a slices_S8x2048_o4_0_S4x2048)
  let d := addf (extractStridedSlice S2x2048 ![0, 0] b slices_S4x2048_o0_0_S2x2048)
    (extractStridedSlice S2x2048 ![2, 0] b slices_S4x2048_o2_0_S2x2048)
  addf (extractStridedSlice S1x2048 ![0, 0] d slices_S2x2048_o0_0_S1x2048)
    (extractStridedSlice S1x2048 ![1, 0] d slices_S2x2048_o1_0_S1x2048)

/-- The squared distance from every column of `r` to every code row. -/
def dist (r : FVec F S64x2048 .f32) (cb : Vec F S1x1024x64 .f32) (cq : Vec F S1x1024x1 .f32) :
    FVec F S1024x2048 .f32 :=
  addf
    (subf (broadcastTo S1024x2048 (colSum (mulf r r)) broadcasts_S1x2048_S1024x2048)
      (mulf (broadcast S1024x2048 (Scalar.ofBits .f32 0x40000000#32))
        (matmul dot_S1024x64_S64x2048_S1024x2048_1_0_0_1_n_n none
          (shapeCast S1024x64 cb shapeCasts_S1x1024x64_S1024x64) r
          (constant S1024x2048 .f32 0x00000000#32))))
    (broadcastTo S1024x2048 (shapeCast S1024x1 cq shapeCasts_S1x1024x1_S1024x1)
      broadcasts_S1024x1_S1024x2048)

/-- The least entry of each column. -/
def least (d : FVec F S1024x2048 .f32) : FVec F S2048 .f32 :=
  multiReduction .minimumf [0] S2048 d 0x7F800000#32 reduces_S1024x2048_S2048 (.inl rfl) rfl

/-- The first row at which each column has its least entry. -/
def idx (d : FVec F S1024x2048 .f32) : IVec S2048 32 :=
  multiReductionI .minsi [0] S2048
    (select (cmpf .oeq d (broadcastTo S1024x2048
        (shapeCast S1x2048 (least d) shapeCasts_S2048_S1x2048) broadcasts_S1x2048_S1024x2048))
      lane (broadcast S1024x2048 1024#32))
    2147483647#32 reduces_S1024x2048_S2048 rfl

/-- One in row `i j` of column `j`, nothing elsewhere. -/
def hot (i : IVec S2048 32) : FVec F S1024x2048 .bf16 :=
  truncf .bf16 (sitofp .f32 (extui 32 (cmpi .eq lane
    (broadcastTo S1024x2048 (shapeCast S1x2048 i shapeCasts_S2048_S1x2048)
      broadcasts_S1x2048_S1024x2048)) natLt_1_32)) bitsLt_bf16_f32

/-- The product of the three code parts, stacked as 192 columns, with a one-hot matrix. -/
def picked (c3 : Vec F S1x1024x192 .bf16) (i : IVec S2048 32) : FVec F S192x2048 .f32 :=
  matmul dot_S1024x192_S1024x2048_S192x2048_0_0_1_1_n_n none
    (shapeCast S1024x192 c3 shapeCasts_S1x1024x192_S1024x192) (hot i)
    (constant S192x2048 .f32 0x00000000#32)

/-- The code that `i` names in each column, its three parts added up. -/
def code (c3 : Vec F S1x1024x192 .bf16) (i : IVec S2048 32) : FVec F S64x2048 .f32 :=
  addf (addf (extractStridedSlice S64x2048 ![0, 0] (picked c3 i) slices_S192x2048_o0_0_S64x2048)
      (extractStridedSlice S64x2048 ![64, 0] (picked c3 i) slices_S192x2048_o64_0_S64x2048))
    (extractStridedSlice S64x2048 ![128, 0] (picked c3 i) slices_S192x2048_o128_0_S64x2048)

/-- The sum of the squares of `q - r`. -/
def sqErr (q r : FVec F S64x2048 .f32) : F .f32 :=
  extractAt ![0, 0, 0] (shapeCast S1x1x1
    (multiReduction .add [1, 2] S1
      (shapeCast S1x64x2048 (mulf (subf q r) (subf q r)) shapeCasts_S64x2048_S1x64x2048)
      0x00000000#32 reduces_S1x64x2048_S1 (.inl rfl) rfl) shapeCasts_S1_S1x1x1) inpos_S1x1x1_p0_0_0

/-- A row of counts with this block's counts added. -/
def counted (i : IVec S2048 32) (row : Vec F S1x1x1024 .f32) : FVec F S1x1x1024 .f32 :=
  shapeCast S1x1x1024 (addf (shapeCast S1x1024 row shapeCasts_S1x1x1024_S1x1024)
    (extractStridedSlice S1x1024 ![0, 0]
      (matmul dot_S8x2048_S1024x2048_S8x1024_1_1_0_0_n_n none (k0_pay10 (F := F)) (hot i)
        (constant S8x1024 .f32 0x00000000#32)) slices_S8x1024_o0_0_S1x1024)) shapeCasts_S1x1024_S1x1x1024

/-- A row of indices in the shape that the kernel stores. -/
def indRow (i : IVec S2048 32) : IVec S1x1x2048 32 :=
  shapeCast S1x1x2048 (shapeCast S1x2048 i shapeCasts_S2048_S1x2048) shapeCasts_S1x2048_S1x1x2048

/-! ## The four levels on one block -/

/-- Level `l` of the block of codebooks. -/
def lcb (a : Vec F S4x1024x64 .f32) : ℕ → Vec F S1x1024x64 .f32
  | 0 => View.ld a (Rect.unit ![0, 0, 0] ![1, 1024, 64] inb_S4x1024x64_S1x1024x64_0_0_0)
  | 1 => View.ld a (Rect.unit ![1, 0, 0] ![1, 1024, 64] inb_S4x1024x64_S1x1024x64_1_0_0)
  | 2 => View.ld a (Rect.unit ![2, 0, 0] ![1, 1024, 64] inb_S4x1024x64_S1x1024x64_2_0_0)
  | _ => View.ld a (Rect.unit ![3, 0, 0] ![1, 1024, 64] inb_S4x1024x64_S1x1024x64_3_0_0)

/-- Level `l` of the block of split codebooks. -/
def lc3 (a : Vec F S4x1024x192 .bf16) : ℕ → Vec F S1x1024x192 .bf16
  | 0 => View.ld a (Rect.unit ![0, 0, 0] ![1, 1024, 192] inb_S4x1024x192_S1x1024x192_0_0_0)
  | 1 => View.ld a (Rect.unit ![1, 0, 0] ![1, 1024, 192] inb_S4x1024x192_S1x1024x192_1_0_0)
  | 2 => View.ld a (Rect.unit ![2, 0, 0] ![1, 1024, 192] inb_S4x1024x192_S1x1024x192_2_0_0)
  | _ => View.ld a (Rect.unit ![3, 0, 0] ![1, 1024, 192] inb_S4x1024x192_S1x1024x192_3_0_0)

/-- Level `l` of the block of squared code norms. -/
def lcq (a : Vec F S4x1024x1 .f32) : ℕ → Vec F S1x1024x1 .f32
  | 0 => View.ld a (Rect.unit ![0, 0, 0] ![1, 1024, 1] inb_S4x1024x1_S1x1024x1_0_0_0)
  | 1 => View.ld a (Rect.unit ![1, 0, 0] ![1, 1024, 1] inb_S4x1024x1_S1x1024x1_1_0_0)
  | 2 => View.ld a (Rect.unit ![2, 0, 0] ![1, 1024, 1] inb_S4x1024x1_S1x1024x1_2_0_0)
  | _ => View.ld a (Rect.unit ![3, 0, 0] ![1, 1024, 1] inb_S4x1024x1_S1x1024x1_3_0_0)

/-- Level `l` of the carried counts. -/
def lcnt (a : Vec F S4x1x1024 .f32) : ℕ → Vec F S1x1x1024 .f32
  | 0 => View.ld a (Rect.unit ![0, 0, 0] ![1, 1, 1024] inb_S4x1x1024_S1x1x1024_0_0_0)
  | 1 => View.ld a (Rect.unit ![1, 0, 0] ![1, 1, 1024] inb_S4x1x1024_S1x1x1024_1_0_0)
  | 2 => View.ld a (Rect.unit ![2, 0, 0] ![1, 1, 1024] inb_S4x1x1024_S1x1x1024_2_0_0)
  | _ => View.ld a (Rect.unit ![3, 0, 0] ![1, 1, 1024] inb_S4x1x1024_S1x1x1024_3_0_0)

section Levels
variable (x : Vec F S2048x64 .f32) (a1 : Vec F S4x1024x64 .f32) (a2 : Vec F S4x1024x192 .bf16)
  (a3 : Vec F S4x1024x1 .f32)

/-- The residual before level `l`. -/
def res : ℕ → FVec F S64x2048 .f32
  | 0 => k0_pay8 x
  | l + 1 => subf (res l) (code (lc3 a2 l) (idx (dist (res l) (lcb a1 l) (lcq a3 l))))

/-- The indices that level `l` chooses. -/
def ind (l : ℕ) : IVec S2048 32 := idx (dist (res x a1 a2 a3 l) (lcb a1 l) (lcq a3 l))

/-- The codes that level `l` chooses. -/
def qv (l : ℕ) : FVec F S64x2048 .f32 := code (lc3 a2 l) (ind x a1 a2 a3 l)

/-- The block of quantized rows. -/
def xqBlk : FVec F S2048x64 .f32 :=
  transpose S2048x64 [1, 0]
    (addf (addf (addf (addf k0_pay9 (qv x a1 a2 a3 0)) (qv x a1 a2 a3 1)) (qv x a1 a2 a3 2)) (qv x a1 a2 a3 3))
    transposes_S64x2048_p1_0_S2048x64

/-- The block's sum of squared errors over the four levels. -/
def errBlk : F .f32 :=
  Scalar.addf (Scalar.addf (Scalar.addf (Scalar.addf (Scalar.ofBits .f32 0x00000000#32)
    (sqErr (qv x a1 a2 a3 0) (res x a1 a2 a3 0))) (sqErr (qv x a1 a2 a3 1) (res x a1 a2 a3 1)))
    (sqErr (qv x a1 a2 a3 2) (res x a1 a2 a3 2))) (sqErr (qv x a1 a2 a3 3) (res x a1 a2 a3 3))

end Levels

/-! ## The kernel's stages are these operators -/

/-- The first five slices of `colSum`. -/
def colFive (s : FVec F S64x2048 .f32) : FVec F S8x2048 .f32 :=
  addf (addf (addf (addf
    (extractStridedSlice S8x2048 ![0, 0] s slices_S64x2048_o0_0_S8x2048)
    (extractStridedSlice S8x2048 ![8, 0] s slices_S64x2048_o8_0_S8x2048))
    (extractStridedSlice S8x2048 ![16, 0] s slices_S64x2048_o16_0_S8x2048))
    (extractStridedSlice S8x2048 ![24, 0] s slices_S64x2048_o24_0_S8x2048))
    (extractStridedSlice S8x2048 ![32, 0] s slices_S64x2048_o32_0_S8x2048)

/-- One of the two rows that `colSum` adds last. -/
def colTop (s : FVec F S64x2048 .f32) : FVec F S1x2048 .f32 :=
  let a := addf (addf (addf (colFive s)
    (extractStridedSlice S8x2048 ![40, 0] s slices_S64x2048_o40_0_S8x2048))
    (extractStridedSlice S8x2048 ![48, 0] s slices_S64x2048_o48_0_S8x2048))
    (extractStridedSlice S8x2048 ![56, 0] s slices_S64x2048_o56_0_S8x2048)
  let b := addf (extractStridedSlice S4x2048 ![0, 0] a slices_S8x2048_o0_0_S4x2048)
    (extractStridedSlice S4x2048 ![4, 0] a slices_S8x2048_o4_0_S4x2048)
  let d := addf (extractStridedSlice S2x2048 ![0, 0] b slices_S4x2048_o0_0_S2x2048)
    (extractStridedSlice S2x2048 ![2, 0] b slices_S4x2048_o2_0_S2x2048)
  extractStridedSlice S1x2048 ![0, 0] d slices_S2x2048_o0_0_S1x2048

/-- The other of the two rows that `colSum` adds last. -/
def colEnd (s : FVec F S64x2048 .f32) : FVec F S1x2048 .f32 :=
  let a := addf (addf (addf (colFive s)
    (extractStridedSlice S8x2048 ![40, 0] s slices_S64x2048_o40_0_S8x2048))
    (extractStridedSlice S8x2048 ![48, 0] s slices_S64x2048_o48_0_S8x2048))
    (extractStridedSlice S8x2048 ![56, 0] s slices_S64x2048_o56_0_S8x2048)
  let b := addf (extractStridedSlice S4x2048 ![0, 0] a slices_S8x2048_o0_0_S4x2048)
    (extractStridedSlice S4x2048 ![4, 0] a slices_S8x2048_o4_0_S4x2048)
  let d := addf (extractStridedSlice S2x2048 ![0, 0] b slices_S4x2048_o0_0_S2x2048)
    (extractStridedSlice S2x2048 ![2, 0] b slices_S4x2048_o2_0_S2x2048)
  extractStridedSlice S1x2048 ![1, 0] d slices_S2x2048_o1_0_S1x2048

/-- The first two parts of a picked code. -/
def codeTwo (p : FVec F S192x2048 .f32) : FVec F S64x2048 .f32 :=
  addf (extractStridedSlice S64x2048 ![0, 0] p slices_S192x2048_o0_0_S64x2048)
    (extractStridedSlice S64x2048 ![64, 0] p slices_S192x2048_o64_0_S64x2048)

/-- Indices laid along the rows of a matrix. -/
def spread (i : IVec S2048 32) : IVec S1024x2048 32 :=
  broadcastTo S1024x2048 (shapeCast S1x2048 i shapeCasts_S2048_S1x2048) broadcasts_S1x2048_S1024x2048

theorem lane_eq : iota Kind.tc S1024x2048 32 [0] iota_S1024x2048_d0_w32 = lane := rfl

variable (x : Vec F S2048x64 .f32) (r q : FVec F S64x2048 .f32) (cb : Vec F S1x1024x64 .f32)
  (cq : Vec F S1x1024x1 .f32) (c3 : Vec F S1x1024x192 .bf16) (i : IVec S2048 32)
  (row : Vec F S1x1x1024 .f32) (e : F .f32)

theorem pay13_eq : k0_pay13 lane (k0_pay11 x cb) (k0_pay12 cq) = idx (dist (k0_pay8 x) cb cq) := rfl
theorem pay15_eq : k0_pay15 lane (k0_pay11 x cb) (k0_pay12 cq) c3 =
    code c3 (idx (dist (k0_pay8 x) cb cq)) := rfl
theorem pay16_eq : k0_pay16 r lane (k0_pay11 x cb) (k0_pay12 cq) c3 =
    Scalar.addf (Scalar.ofBits .f32 0x00000000#32) (sqErr (code c3 (idx (dist (k0_pay8 x) cb cq))) r) := rfl
theorem pay17_eq : k0_pay17 lane k0_pay10 (k0_pay11 x cb) (k0_pay12 cq) row =
    counted (idx (dist (k0_pay8 x) cb cq)) row := rfl
theorem pay18_eq : k0_pay19 (k0_pay18 lane (k0_pay11 x cb) (k0_pay12 cq)) =
    indRow (idx (dist (k0_pay8 x) cb cq)) := rfl
theorem pay20_eq : k0_pay20 r q = addf r q := rfl
theorem pay21_eq : k0_pay21 r q = subf r q := rfl
theorem pay22_eq : k0_pay22 r lane q cb cq = idx (dist (subf r q) cb cq) := rfl
theorem pay23_eq : k0_pay23 r lane q cb cq = spread (idx (dist (subf r q) cb cq)) := rfl
theorem pay25_eq : k0_pay25 lane (spread i) c3 = code c3 i := rfl
theorem pay26_eq : k0_pay26 lane e r (spread i) c3 = Scalar.addf e (sqErr (code c3 i) r) := rfl
theorem pay27_eq : k0_pay27 lane k0_pay10 (spread i) row = counted i row := rfl
theorem pay28_eq : k0_pay28 i = indRow i := rfl
theorem pay29_eq : k0_pay29 lane q (spread i) c3 = addf q (code c3 i) := rfl
theorem pay30_eq : k0_pay30 lane r (spread i) c3 = subf r (code c3 i) := rfl
theorem pay31_eq : k0_pay31 lane r (spread i) c3 =
    mulf (subf r (code c3 i)) (subf r (code c3 i)) := rfl
theorem pay32_eq : k0_pay32 lane r (spread i) c3 =
    colFive (mulf (subf r (code c3 i)) (subf r (code c3 i))) := rfl
theorem pay33_eq : k0_pay33 lane r (mulf r r) (colFive (mulf r r)) cb cq = idx (dist r cb cq) := rfl
theorem pay34_eq : k0_pay34 lane r (mulf r r) (colFive (mulf r r)) cb cq = hot (idx (dist r cb cq)) := rfl
theorem pay35_eq : k0_pay35 lane r (mulf r r) (colFive (mulf r r)) cb cq c3 =
    picked c3 (idx (dist r cb cq)) := rfl
theorem pay36_eq : k0_pay36 lane r (mulf r r) (colFive (mulf r r)) cb cq c3 =
    codeTwo (picked c3 (idx (dist r cb cq))) := rfl
theorem pay38_eq : k0_pay38 e r (picked c3 i) (codeTwo (picked c3 i)) =
    Scalar.addf e (sqErr (code c3 i) r) := rfl
theorem pay39_eq : k0_pay39 k0_pay10 (hot i) row = counted i row := rfl
theorem pay40_eq : k0_pay40 i = indRow i := rfl
theorem pay41_eq : k0_pay41 q (picked c3 i) (codeTwo (picked c3 i)) = addf q (code c3 i) := rfl
theorem pay42_eq : k0_pay42 r (picked c3 i) (codeTwo (picked c3 i)) = subf r (code c3 i) := rfl
theorem pay44_eq : k0_pay44 r (picked c3 i) (codeTwo (picked c3 i)) =
    colTop (mulf (subf r (code c3 i)) (subf r (code c3 i))) := rfl
theorem pay45_eq : k0_pay45 r (picked c3 i) (codeTwo (picked c3 i)) =
    colEnd (mulf (subf r (code c3 i)) (subf r (code c3 i))) := rfl
theorem pay46_eq : k0_pay46 lane r (colTop (mulf r r)) (colEnd (mulf r r)) cb cq = idx (dist r cb cq) := rfl
theorem pay48_eq : k0_pay48 lane r (colTop (mulf r r)) (colEnd (mulf r r)) cb cq c3 =
    code c3 (idx (dist r cb cq)) := rfl
theorem pay49_eq : k0_pay49 lane e r (colTop (mulf r r)) (colEnd (mulf r r)) cb cq c3 =
    Scalar.addf e (sqErr (code c3 (idx (dist r cb cq))) r) := rfl
theorem pay50_eq : k0_pay1 (k0_pay50 lane k0_pay10 r (colTop (mulf r r)) (colEnd (mulf r r)) cb cq) row =
    counted (idx (dist r cb cq)) row := rfl
theorem pay2_eq : k0_pay2 i = indRow i := rfl
theorem pay3_eq : k0_pay3 r q = transpose S2048x64 [1, 0] (addf r q) transposes_S64x2048_p1_0_S2048x64 := rfl

end Cert.KVal
-- ==== Proof.Spec.lean ====
module

public import Mathlib.Data.EReal.Operations
public import Mathlib.Algebra.BigOperators.Fin

/-!
The residual quantizer over the real numbers: the squared distance of a vector to a code, the first
nearest code, and the residuals of the levels.
-/

@[expose] public section

noncomputable section

namespace Cert.Spec

/-- The squared distance of `r` to `c`, as the three sums that both programs add. -/
def sqd (r c : Fin 64 → ℝ) : ℝ := ((∑ e, r e * r e) - 2 * ∑ e, c e * r e) + ∑ e, c e * c e

/-- `k` is the first place at which `d` is least. -/
def IsBest (d : Fin 1024 → ℝ) (k : Fin 1024) : Prop := ∀ j, d k ≤ d j ∧ (d j = d k → k ≤ j)

theorem exists_best (d : Fin 1024 → ℝ) : ∃ k, IsBest d k := by
  obtain ⟨a, -, ha⟩ := Finset.exists_min_image Finset.univ d ⟨0, Finset.mem_univ _⟩
  have hne : (Finset.univ.filter fun j => d j = d a).Nonempty :=
    ⟨a, Finset.mem_filter.mpr ⟨Finset.mem_univ _, rfl⟩⟩
  obtain ⟨k, hk, hmin⟩ := Finset.exists_min_image _ (fun j : Fin 1024 => j) hne
  have hka : d k = d a := (Finset.mem_filter.mp hk).2
  refine ⟨k, fun j => ⟨hka ▸ ha j (Finset.mem_univ _), fun hj => hmin j ?_⟩⟩
  exact Finset.mem_filter.mpr ⟨Finset.mem_univ _, hj.trans hka⟩

theorem best_unique {d : Fin 1024 → ℝ} {k k' : Fin 1024} (h : IsBest d k) (h' : IsBest d k') : k = k' := by
  have e : d k = d k' := le_antisymm (h k').1 (h' k).1
  exact le_antisymm ((h k').2 e.symm) ((h' k).2 e)

/-- The first place at which `d` is least. -/
def best (d : Fin 1024 → ℝ) : Fin 1024 := (exists_best d).choose

theorem best_spec (d : Fin 1024 → ℝ) : IsBest d (best d) := (exists_best d).choose_spec

/-- A place that the first least place's description fits is that place. -/
theorem eq_best {d : Fin 1024 → ℝ} {k : Fin 1024} (h : IsBest d k) : k = best d :=
  best_unique h (best_spec d)

/-- The residual of `x` before level `l` of the codebooks `C`. -/
def resid (C : ℕ → Fin 1024 → Fin 64 → ℝ) (x : Fin 64 → ℝ) : ℕ → Fin 64 → ℝ
  | 0 => x
  | l + 1 => fun e => resid C x l e - C l (best fun k => sqd (resid C x l) (C l k)) e

/-- The code that level `l` chooses for `x`. -/
def pick (C : ℕ → Fin 1024 → Fin 64 → ℝ) (x : Fin 64 → ℝ) (l : ℕ) : Fin 1024 :=
  best fun k => sqd (resid C x l) (C l k)

theorem resid_succ (C : ℕ → Fin 1024 → Fin 64 → ℝ) (x : Fin 64 → ℝ) (l : ℕ) (e : Fin 64) :
    resid C x (l + 1) e = resid C x l e - C l (pick C x l) e := rfl

/-- A finite sum of real numbers is the same taken in the extended reals. -/
theorem sum_coe {ι : Type*} (s : Finset ι) (f : ι → ℝ) : (∑ i ∈ s, (f i : EReal)) = ((∑ i ∈ s, f i : ℝ) : EReal) := by
  induction s using Finset.cons_induction with
  | empty => simp
  | cons a s ha ih => rw [Finset.sum_cons, Finset.sum_cons, ih, EReal.coe_add]

end Cert.Spec
-- ==== Proof.KLevel.lean ====
module

public import proofs.«01_k».proof.Proof.KOps
public import proofs.«01_k».proof.Proof.Spec
public import Idealize.ShloMosaic.Lib.Pointwise
public import Idealize.ShloMosaic.Lib.SortNet.Extract

/-!
The operators of one level read at one column, at the ideal reading: distances, the first nearest code, and
the row that it names are those of `Cert.Spec`.
-/

@[expose] public section

set_option maxRecDepth 16384

noncomputable section

namespace Cert.KVal
open Idealize.ShloMosaic Idealize.SL.Sem Cert.KernelIdeal Cert.KernelIdeal.Gen Cert.Spec

theorem ofBits_two : Ideal.ofBits .f32 0x40000000#32 = ((2 : ℝ) : EReal) := by
  simp [Ideal.ofBits, Ideal.ieee]
  rw [← EReal.coe_mul]
  norm_num

theorem ofBits_top : Ideal.ofBits .f32 0x7F800000#32 = ⊤ := by
  simp [Ideal.ofBits, Ideal.ieee]

theorem colSum_apply (s : FVec Ideal S64x2048 .f32) (S : Fin 64 → ℝ) (j : Fin 2048)
    (h : ∀ e, s (ix2 e j) = ((S e : ℝ) : EReal)) : colSum s (ix2 0 j) = ((∑ e, S e : ℝ) : EReal) := by
  pointwise [colSum]
  simp only [h, ← EReal.coe_add]
  refine congrArg _ ?_
  simp only [Fin.sum_univ_succ, Fin.sum_univ_zero, Fin.succ_zero_eq_one, Fin.reduceSucc]
  ring

theorem dist_apply (r : FVec Ideal S64x2048 .f32) (cb : Vec Ideal S1x1024x64 .f32)
    (cq : Vec Ideal S1x1024x1 .f32) (R : Fin 64 → ℝ) (C : Fin 1024 → Fin 64 → ℝ) (k : Fin 1024)
    (j : Fin 2048) (hr : ∀ e, r (ix2 e j) = ((R e : ℝ) : EReal))
    (hc : ∀ k e, cb (ix3 0 k e) = ((C k e : ℝ) : EReal))
    (hq : ∀ k, cq (ix3 0 k 0) = ((∑ e, C k e * C k e : ℝ) : EReal)) :
    dist r cb cq (ix2 k j) = ((sqd R (C k) : ℝ) : EReal) := by
  have hs := colSum_apply (mulf r r) (fun e => R e * R e) j (fun e => by
    pointwise []; rw [hr]; exact (EReal.coe_mul _ _).symm)
  pointwise [dist]
  rw [hs, ofBits_two, hq]
  simp only [hc, hr, ← EReal.coe_mul, sum_coe, ← EReal.coe_sub, ← EReal.coe_add]
  rfl

/-- The least of finitely many words, as an integer, is the least of their integers. -/
theorem toInt_fold_minsi {n : ℕ} (b : BitVec 32) (f : Fin n → BitVec 32) :
    (Finset.univ.fold IntOp.minsi b f).toInt = Finset.univ.fold min b.toInt fun k => (f k).toInt :=
  (Finset.fold_hom (op := IntOp.minsi) (op' := min) fun x y => SortNet.toInt_minsi x y).symm

theorem toInt_ofNat_small (k : ℕ) (h : k ≤ 1024) : (BitVec.ofNat 32 k).toInt = k := by
  have e : (BitVec.ofNat 32 k).toNat = k := by rw [BitVec.toNat_ofNat]; omega
  rw [BitVec.toInt_eq_toNat_of_lt (by omega), e]

theorem fold_min_best (D : Fin 1024 → ℝ) :
    Finset.univ.fold min (⊤ : EReal) (fun k => ((D k : ℝ) : EReal)) = ((D (best D) : ℝ) : EReal) :=
  le_antisymm
    ((Finset.fold_min_le _).mpr (.inr ⟨best D, Finset.mem_univ _, le_rfl⟩))
    ((Finset.le_fold_min _).mpr ⟨le_top, fun j _ => EReal.coe_le_coe_iff.mpr (best_spec D j).1⟩)

theorem idx_apply (d : FVec Ideal S1024x2048 .f32) (D : Fin 1024 → ℝ) (j : Fin 2048)
    (h : ∀ k, d (ix2 k j) = ((D k : ℝ) : EReal)) : idx d (ix1 j) = BitVec.ofNat 32 (best D).val := by
  pointwise [idx, least, lane]
  simp only [h, ofBits_top, fold_min_best, EReal.coe_eq_coe_iff]
  have hb : (best D).val < 1024 := (best D).isLt
  apply BitVec.eq_of_toInt_eq
  rw [toInt_fold_minsi, toInt_ofNat_small (best D).val (by omega)]
  apply le_antisymm
  · refine (Finset.fold_min_le _).mpr (.inr ⟨best D, Finset.mem_univ _, ?_⟩)
    rw [if_pos rfl, toInt_ofNat_small (best D).val (by omega)]
  · refine (Finset.le_fold_min _).mpr ⟨?_, fun k _ => ?_⟩
    · have : (2147483647#32 : BitVec 32).toInt = 2147483647 := by decide
      omega
    · split
      · rename_i hk
        have hk' : (best D).val ≤ k.val := (best_spec D k).2 hk
        rw [toInt_ofNat_small k.val (by omega)]; omega
      · have : (1024#32 : BitVec 32).toInt = 1024 := by decide
        omega

/-- One entry of a one-hot column. -/
theorem hot_apply (k k' : Fin 1024) :
    (FloatOps.sitofp (F := Ideal) FTy.f32 (BitVec.setWidth 32
      (IntOp.cmpi CmpIPredicate.eq (BitVec.ofNat 32 k.val) (BitVec.ofNat 32 k'.val))) : EReal) =
      if k = k' then 1 else 0 := by
  show (((BitVec.setWidth 32 (IntOp.cmpi CmpIPredicate.eq (BitVec.ofNat 32 k.val)
    (BitVec.ofNat 32 k'.val))).toInt : ℝ) : EReal) = _
  by_cases hk : k = k'
  · subst hk
    rw [if_pos rfl, IntOp.cmpi_eq_self]
    have : (BitVec.setWidth 32 1#1).toInt = 1 := by decide
    rw [this]; simp
  · have hne : BitVec.ofNat 32 k.val ≠ BitVec.ofNat 32 k'.val := fun h => hk (by
      have := congrArg BitVec.toInt h
      rw [toInt_ofNat_small k.val (by omega), toInt_ofNat_small k'.val (by omega)] at this
      exact Fin.ext (by exact_mod_cast this))
    have h0 : IntOp.cmpi CmpIPredicate.eq (BitVec.ofNat 32 k.val) (BitVec.ofNat 32 k'.val) = 0#1 := by
      show BitVec.ofBool (BitVec.ofNat 32 k.val == BitVec.ofNat 32 k'.val) = 0#1
      rw [beq_eq_false_iff_ne.mpr hne]; rfl
    have : (BitVec.setWidth 32 0#1).toInt = 0 := by decide
    rw [if_neg hk, h0, this]; simp

theorem code_apply (c3 : Vec Ideal S1x1024x192 .bf16) (i : IVec S2048 32) (C : Fin 1024 → Fin 64 → ℝ)
    (j : Fin 2048) (e : Fin 64) (k : Fin 1024) (hi : i (ix1 j) = BitVec.ofNat 32 k.val)
    (h0 : ∀ k (e : Fin 64), c3 (ix3 0 k ⟨e.val, by omega⟩) = ((C k e : ℝ) : EReal))
    (h1 : ∀ k (e : Fin 64), c3 (ix3 0 k ⟨64 + e.val, by omega⟩) = 0)
    (h2 : ∀ k (e : Fin 64), c3 (ix3 0 k ⟨128 + e.val, by omega⟩) = 0) :
    code c3 i (ix2 e j) = ((C k e : ℝ) : EReal) := by
  pointwise [code, picked, hot, lane]
  simp only [h0, h1, h2, hi, hot_apply, zero_mul, Finset.sum_const_zero, add_zero, mul_ite, mul_one, mul_zero,
    Finset.sum_ite_eq', Finset.mem_univ, if_true]

end Cert.KVal
-- ==== Proof.KBlock.lean ====
module

public import proofs.«01_k».proof.Proof.KOps
public import proofs.«01_k».proof.Proof.Gen.KernelIdeal.Frame

/-!
What each grid point leaves in the output blocks, in terms of the operators of one level.
-/

@[expose] public section

set_option maxRecDepth 16384

noncomputable section

namespace Cert.KVal
open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (c : Dev nD) (t : Fin cfg0.N)

/-- The four rows of indices that a grid point stores. -/
def indPieces (x : Vec F S2048x64 .f32) (a1 : Vec F S4x1024x64 .f32) (a2 : Vec F S4x1024x192 .bf16)
    (a3 : Vec F S4x1024x1 .f32) : List (View.Piece (Elt F) S1x4x2048 .i32) :=
  [⟨Rect.unit ![0, 3, 0] ![1, 1, 2048] inb_S1x4x2048_S1x1x2048_0_3_0, indRow (ind x a1 a2 a3 3)⟩,
   ⟨Rect.unit ![0, 2, 0] ![1, 1, 2048] inb_S1x4x2048_S1x1x2048_0_2_0, indRow (ind x a1 a2 a3 2)⟩,
   ⟨Rect.unit ![0, 1, 0] ![1, 1, 2048] inb_S1x4x2048_S1x1x2048_0_1_0, indRow (ind x a1 a2 a3 1)⟩,
   ⟨Rect.unit ![0, 0, 0] ![1, 1, 2048] inb_S1x4x2048_S1x1x2048_0_0_0, indRow (ind x a1 a2 a3 0)⟩]

/-- Every grid point leaves its block of quantized rows. -/
theorem xq_point : (outsAt0 m c t.val t.isLt).1 =
    xqBlk (iblk m c 0 t) (iblk m c 1 t) (iblk m c 2 t) (iblk m c 3 t) := by
  by_cases h0 : t.val % 18 = 0
  · rw [outsAt0_A m c t h0 (by omega)]
    frame_out
    simp only [lane_eq, pay13_eq, pay15_eq, pay20_eq, pay21_eq, pay22_eq, pay23_eq, pay25_eq, pay29_eq,
      pay30_eq, pay31_eq, pay32_eq, pay33_eq, pay35_eq, pay36_eq, pay41_eq, pay42_eq, pay44_eq, pay45_eq,
      pay46_eq, pay48_eq, pay3_eq]
    rfl
  · by_cases h1 : t.val % 18 = 17
    on_goal 1 => rw [outsAt0_C m c t h0 h1]
    on_goal 2 => rw [outsAt0_B m c t h0 h1]
    all_goals
      frame_out
      simp only [lane_eq, pay13_eq, pay15_eq, pay20_eq, pay21_eq, pay22_eq, pay23_eq, pay25_eq, pay29_eq,
        pay30_eq, pay31_eq, pay32_eq, pay33_eq, pay35_eq, pay36_eq, pay41_eq, pay42_eq, pay44_eq, pay45_eq,
        pay46_eq, pay48_eq, pay3_eq]
      rfl

/-- Every grid point leaves its four rows of indices. -/
theorem ind_point : (outsAt0 m c t.val t.isLt).2.1 =
    View.canon (indPieces (iblk m c 0 t) (iblk m c 1 t) (iblk m c 2 t) (iblk m c 3 t)) := by
  by_cases h0 : t.val % 18 = 0
  · rw [outsAt0_A m c t h0 (by omega)]
    frame_out
    simp only [lane_eq, pay13_eq, pay15_eq, pay18_eq, pay20_eq, pay21_eq, pay22_eq, pay23_eq, pay25_eq,
      pay28_eq, pay29_eq, pay30_eq, pay31_eq, pay32_eq, pay33_eq, pay35_eq, pay36_eq, pay40_eq, pay41_eq,
      pay42_eq, pay44_eq, pay45_eq, pay46_eq, pay48_eq, pay2_eq]
    rfl
  · by_cases h1 : t.val % 18 = 17
    on_goal 1 => rw [outsAt0_C m c t h0 h1]
    on_goal 2 => rw [outsAt0_B m c t h0 h1]
    all_goals
      frame_out
      simp only [lane_eq, pay13_eq, pay15_eq, pay18_eq, pay20_eq, pay21_eq, pay22_eq, pay23_eq, pay25_eq,
        pay28_eq, pay29_eq, pay30_eq, pay31_eq, pay32_eq, pay33_eq, pay35_eq, pay36_eq, pay40_eq, pay41_eq,
        pay42_eq, pay44_eq, pay45_eq, pay46_eq, pay48_eq, pay2_eq]
      rfl

end Cert.KVal
-- ==== Proof.KCols.lean ====
module

public import proofs.«01_k».proof.Proof.KLevel
public import proofs.«01_k».proof.Proof.KBlock

/-!
The four levels on one block, column by column: the residuals, the chosen codes and the stored rows are
those of `Cert.Spec`.
-/

@[expose] public section

set_option maxRecDepth 16384

noncomputable section

namespace Cert.KVal
open Idealize.ShloMosaic Idealize.SL.Sem Cert.KernelIdeal Cert.KernelIdeal.Gen Cert.Spec

variable (x : Vec Ideal S2048x64 .f32) (a1 : Vec Ideal S4x1024x64 .f32) (a2 : Vec Ideal S4x1024x192 .bf16)
  (a3 : Vec Ideal S4x1024x1 .f32)

/-- The operands of a block hold the real codebooks `C`: the codes, their split with nothing in the lower
    parts, and their squared norms. -/
structure Holds (C : ℕ → Fin 1024 → Fin 64 → ℝ) : Prop where
  codes : ∀ (l : Fin 4) k e, a1 (ix3 l k e) = ((C l.val k e : ℝ) : EReal)
  high : ∀ (l : Fin 4) k (e : Fin 64), a2 (ix3 l k ⟨e.val, by omega⟩) = ((C l.val k e : ℝ) : EReal)
  mid : ∀ (l : Fin 4) k (e : Fin 64), a2 (ix3 l k ⟨64 + e.val, by omega⟩) = 0
  low : ∀ (l : Fin 4) k (e : Fin 64), a2 (ix3 l k ⟨128 + e.val, by omega⟩) = 0
  norms : ∀ (l : Fin 4) k, a3 (ix3 l k 0) = ((∑ e, C l.val k e * C l.val k e : ℝ) : EReal)

theorem lcb_apply (l : Fin 4) (k : Fin 1024) (e : Fin 64) : lcb a1 l.val (ix3 0 k e) = a1 (ix3 l k e) := by
  fin_cases l <;> pointwise [lcb] <;> rfl

theorem lc3_apply (l : Fin 4) (k : Fin 1024) (e : Fin 192) : lc3 a2 l.val (ix3 0 k e) = a2 (ix3 l k e) := by
  fin_cases l <;> pointwise [lc3] <;> rfl

theorem lcq_apply (l : Fin 4) (k : Fin 1024) : lcq a3 l.val (ix3 0 k 0) = a3 (ix3 l k 0) := by
  fin_cases l <;> pointwise [lcq] <;> rfl

variable {x a1 a2 a3} {C : ℕ → Fin 1024 → Fin 64 → ℝ} {X : Fin 64 → ℝ} {j : Fin 2048}

/-- A level's indices and codes at a column whose residual is the specification's. -/
theorem step_apply (H : Holds a1 a2 a3 C) (l : Fin 4)
    (hr : ∀ e, res x a1 a2 a3 l.val (ix2 e j) = ((resid C X l.val e : ℝ) : EReal)) :
    ind x a1 a2 a3 l.val (ix1 j) = BitVec.ofNat 32 (pick C X l.val).val ∧
      ∀ e, qv x a1 a2 a3 l.val (ix2 e j) = ((C l.val (pick C X l.val) e : ℝ) : EReal) := by
  have hi : ind x a1 a2 a3 l.val (ix1 j) = BitVec.ofNat 32 (pick C X l.val).val :=
    idx_apply _ (fun k => sqd (resid C X l.val) (C l.val k)) j fun k =>
      dist_apply _ _ _ (resid C X l.val) (C l.val) k j hr
        (fun k e => (lcb_apply a1 l k e).trans (H.codes l k e))
        (fun k => (lcq_apply a3 l k).trans (H.norms l k))
  exact ⟨hi, fun e => code_apply _ _ (C l.val) j e _ hi
    (fun k e => (lc3_apply a2 l k _).trans (H.high l k e))
    (fun k e => (lc3_apply a2 l k _).trans (H.mid l k e))
    (fun k e => (lc3_apply a2 l k _).trans (H.low l k e))⟩

/-- The residuals of the four levels. -/
theorem res_apply (H : Holds a1 a2 a3 C) (hx : ∀ e, x (ix2 j e) = ((X e : ℝ) : EReal)) (l : ℕ) (hl : l < 4) :
    ∀ e, res x a1 a2 a3 l (ix2 e j) = ((resid C X l e : ℝ) : EReal) := by
  induction l with
  | zero => intro e; show k0_pay8 x (ix2 e j) = _; pointwise [k0_pay8]; exact hx e
  | succ l ih =>
    intro e
    have hs := (step_apply H ⟨l, by omega⟩ (ih (by omega))).2 e
    show (res x a1 a2 a3 l (ix2 e j) - qv x a1 a2 a3 l (ix2 e j) : EReal) = _
    rw [ih (by omega) e, hs, ← EReal.coe_sub]
    rfl

/-- The indices of the four levels. -/
theorem ind_apply (H : Holds a1 a2 a3 C) (hx : ∀ e, x (ix2 j e) = ((X e : ℝ) : EReal)) (l : Fin 4) :
    ind x a1 a2 a3 l.val (ix1 j) = BitVec.ofNat 32 (pick C X l.val).val :=
  (step_apply H l (res_apply H hx l.val l.isLt)).1

/-- The codes of the four levels. -/
theorem qv_apply (H : Holds a1 a2 a3 C) (hx : ∀ e, x (ix2 j e) = ((X e : ℝ) : EReal)) (l : Fin 4) (e : Fin 64) :
    qv x a1 a2 a3 l.val (ix2 e j) = ((C l.val (pick C X l.val) e : ℝ) : EReal) :=
  (step_apply H l (res_apply H hx l.val l.isLt)).2 e

/-- A row of the block of quantized rows: the sum of the chosen codes. -/
theorem xqBlk_apply (H : Holds a1 a2 a3 C) (hx : ∀ e, x (ix2 j e) = ((X e : ℝ) : EReal)) (e : Fin 64) :
    xqBlk x a1 a2 a3 (ix2 j e) = ((∑ l : Fin 4, C l.val (pick C X l.val) e : ℝ) : EReal) := by
  have h0 := qv_apply H hx 0 e
  have h1 := qv_apply H hx 1 e
  have h2 := qv_apply H hx 2 e
  have h3 := qv_apply H hx 3 e
  pointwise [xqBlk, k0_pay9]
  refine (congrArg₂ _ (congrArg₂ _ (congrArg₂ _ h0 h1) h2) h3).trans ?_
  simp only [← EReal.coe_add, Fin.sum_univ_four]

/-- One stored row of indices. -/
theorem indRow_apply (H : Holds a1 a2 a3 C) (hx : ∀ e, x (ix2 j e) = ((X e : ℝ) : EReal)) (l : Fin 4) (n : ℕ)
    (z : S1x1x2048.Idx) (hn : l.val = n) (hz : j.val = (z 2).val) :
    indRow (ind x a1 a2 a3 n) z = BitVec.ofNat 32 (pick C X l.val).val := by
  subst hn
  have h := ind_apply H hx l
  idx_vars z
  obtain rfl : j = z2 := Fin.ext hz
  pointwise [indRow]
  exact h

/-- The stored rows of indices. -/
theorem indPieces_apply (H : Holds a1 a2 a3 C) (hx : ∀ e, x (ix2 j e) = ((X e : ℝ) : EReal)) (l : Fin 4) :
    View.canon (indPieces x a1 a2 a3) (ix3 0 l j) = BitVec.ofNat 32 (pick C X l.val).val := by
  unfold indPieces
  canon_tiles z h
  all_goals
    have e1 : l.val = _ := h1
    have e2 : j.val = _ := h2
    exact indRow_apply H hx l _ z (by omega) e2

end Cert.KVal
-- ==== Proof.KIn.lean ====
module

public import proofs.«01_k».proof.Proof.KHost
public import proofs.«01_k».proof.Proof.KCols
public import proofs.«01_k».proof.Pre_finite
public import Idealize.ShloMosaic.Lib.ReduceAll

/-!
The operands of a block as real numbers, when both arguments are finite: the codes' split keeps the codes and
leaves nothing over.
-/

@[expose] public section

set_option maxRecDepth 16384

noncomputable section

namespace Cert.KVal
open Idealize.ShloMosaic Idealize.ShloMosaic.TcCoe Idealize.SL.Sem Cert.KernelIdeal Cert.KernelIdeal.Gen
open Cert.Spec

/-- A number whose magnitude is below infinity is real. -/
theorem coe_of_abs_lt {a : EReal} (h : FloatOps.cmpf (F := Ideal) (φ := .f32) .olt (FloatOps.absf (F := Ideal) (φ := .f32) a)
    (Ideal.ofBits .f32 0x7F800000#32) = 1#1) : a = ((a.toReal : ℝ) : EReal) := by
  rw [ofBits_top] at h
  have h2 : max a (-a) < ⊤ := by
    by_contra hn
    have : FloatOps.cmpf (F := Ideal) (φ := .f32) .olt (FloatOps.absf (F := Ideal) (φ := .f32) a) ⊤ = 0#1 := by
      show BitVec.ofBool (decide (max a (-a) < ⊤)) = 0#1
      rw [decide_eq_false hn]; rfl
    rw [this] at h
    exact absurd h (by decide)
  refine (EReal.coe_toReal ?_ ?_).symm
  · rintro rfl; simp at h2
  · rintro rfl; simp at h2

instance pre_facts : Cert.Pre_finite.Facts := by constructor <;> decide +kernel

theorem real_of_finite {x : FVec Ideal Cert.Pre_finite.S64x576x64 .f32} {cb : FVec Ideal Cert.Pre_finite.S4x1024x64 .f32}
    (h : Cert.Pre_finite.fn x cb = fun _ => 1#1) :
    (∀ i, x i = (((x i : EReal).toReal : ℝ) : EReal)) ∧ ∀ i, cb i = (((cb i : EReal).toReal : ℝ) : EReal) := by
  haveI : Subsingleton Cert.Pre_finite.S_.Idx := ⟨fun a b => funext fun i => i.elim0⟩
  have h0 := congrFun h (fun i => i.elim0)
  obtain ⟨e1, e2⟩ := IntOp.andi_eq_one.1 h0
  exact ⟨fun i => coe_of_abs_lt (Host.reduce_andi_all _ _ _ _ _ e1 i), fun i => coe_of_abs_lt (Host.reduce_andi_all _ _ _ _ _ e2 i)⟩

theorem cutF_eq (v : (⟨S4x1024x64, .f32⟩ : BufTy).Contents (Elt Ideal)) : cutF v = v := by
  funext i
  show Scalar.select (BitVec.ofBool (decide (max (v i : EReal) (-v i) < max (v i : EReal) (-v i)))) _ _ = _
  rw [decide_eq_false (lt_irrefl _)]
  rfl

theorem sub_self_coe {a : EReal} (h : a = ((a.toReal : ℝ) : EReal)) : a - a = 0 := by
  rw [h, ← EReal.coe_sub, sub_self]; rfl

variable (m : (ℓ : Loc nD τ sig) → Buf (Elt Ideal) ℓ) (c : Dev nD) (t : Fin cfg0.N)

/-- The first argument's array. -/
def inX : (⟨S64x576x64, .f32⟩ : BufTy).Contents (Elt Ideal) := m ⟨c, Proc.devRef .tc main_arg0⟩
/-- The second argument's array. -/
def inC : (⟨S4x1024x64, .f32⟩ : BufTy).Contents (Elt Ideal) := m ⟨c, Proc.devRef .tc main_arg1⟩

/-- The rows of a first argument, as real numbers. -/
def realX (x : (⟨S64x576x64, .f32⟩ : BufTy).Contents (Elt Ideal)) (n : Fin 36864) (e : Fin 64) : ℝ :=
  ((shapeCast S36864x64 x shapeCasts_S64x576x64_S36864x64 : (⟨S36864x64, .f32⟩ : BufTy).Contents (Elt Ideal)) (ix2 n e) : EReal).toReal

/-- The codes of a second argument, as real numbers. -/
def realC (cb : (⟨S4x1024x64, .f32⟩ : BufTy).Contents (Elt Ideal)) (l : ℕ) (k : Fin 1024) (e : Fin 64) : ℝ :=
  if h : l < 4 then (cb (ix3 ⟨l, h⟩ k e) : EReal).toReal else 0

theorem V_v0 : V m c main_v0 = (shapeCast S36864x64 (inX m c) shapeCasts_S64x576x64_S36864x64 : (⟨S36864x64, .f32⟩ : BufTy).Contents (Elt Ideal)) :=
  (readHost (fun b => m (c, b))).1
theorem V_v3 : V m c main_v3 = normF (inC m c) := (readHost (fun b => m (c, b))).2.1
theorem V_v27 : V m c main_v27 = splitF (inC m c) := (readHost (fun b => m (c, b))).2.2
theorem V_a1 : V m c main_arg1 = inC m c := V_main_arg1 m c

theorem normF_apply (cb : (⟨S4x1024x64, .f32⟩ : BufTy).Contents (Elt Ideal)) (h : ∀ i, cb i = (((cb i : EReal).toReal : ℝ) : EReal)) (l : Fin 4) (k : Fin 1024) :
    normF cb (ix3 l k 0) = ((∑ e, realC cb l.val k e * realC cb l.val k e : ℝ) : EReal) := by
  pointwise [normF]
  rw [← sum_coe]
  refine Finset.sum_congr rfl fun e _ => ?_
  rw [EReal.coe_mul, realC, dif_pos l.isLt]
  exact congrArg₂ (fun a b : EReal => a * b) (h _) (h _)

theorem split_high (cb : (⟨S4x1024x64, .f32⟩ : BufTy).Contents (Elt Ideal)) (l : Fin 4) (k : Fin 1024) (e : Fin 64) :
    splitF cb (ix3 l k ⟨e.val, by omega⟩) = cb (ix3 l k e) := by
  rw [splitF, cutF_eq, cutF_eq]
  pointwise

theorem split_mid (cb : (⟨S4x1024x64, .f32⟩ : BufTy).Contents (Elt Ideal)) (h : ∀ i, cb i = (((cb i : EReal).toReal : ℝ) : EReal)) (l : Fin 4) (k : Fin 1024) (e : Fin 64) :
    splitF cb (ix3 l k ⟨64 + e.val, by omega⟩) = (0 : EReal) := by
  rw [splitF, cutF_eq, cutF_eq]
  pointwise
  exact sub_self_coe (h _)

theorem split_low (cb : (⟨S4x1024x64, .f32⟩ : BufTy).Contents (Elt Ideal)) (h : ∀ i, cb i = (((cb i : EReal).toReal : ℝ) : EReal)) (l : Fin 4) (k : Fin 1024) (e : Fin 64) :
    splitF cb (ix3 l k ⟨128 + e.val, by omega⟩) = (0 : EReal) := by
  rw [splitF, cutF_eq, cutF_eq]
  pointwise
  refine (dif_neg (by omega)).trans ((dif_neg (by omega)).trans ?_)
  have e1 := sub_self_coe (h (ix3 l k ⟨128 + e.val - 64 - 64, by omega⟩))
  exact (congrArg₂ (fun a b : EReal => a - b) e1 e1).trans (sub_zero 0)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![0, 0, 0] := by decide +kernel
theorem index3 : ∀ t : Fin cfg0.N, win0_3.index t = ![0, 0, 0] := by decide +kernel

theorem row_lt (t : Fin cfg0.N) (j : Fin 2048) : t.val * 2048 + j.val < 36864 := by
  have h1 : t.val < 18 := t.isLt
  have h2 := j.isLt
  omega

/-- The row of the array at a block's column. -/
def rowOf (t : Fin cfg0.N) (j : Fin 2048) : Fin 36864 := ⟨t.val * 2048 + j.val, row_lt t j⟩

theorem blk1 (l : Fin 4) (k : Fin 1024) (e : Fin 64) : iblk m c 1 t (ix3 l k e) = inC m c (ix3 l k e) := by
  blk_simp [iblk]
  rw [V_a1]
  refine congrArg (inC m c) (funext fun a => Fin.ext ?_)
  blk_simp [index1]
  fin_cases a <;> simp

theorem blk2 (l : Fin 4) (k : Fin 1024) (e : Fin 192) : iblk m c 2 t (ix3 l k e) = splitF (inC m c) (ix3 l k e) := by
  blk_simp [iblk]
  rw [V_v27]
  refine congrArg (splitF (inC m c)) (funext fun a => Fin.ext ?_)
  blk_simp [index2]
  fin_cases a <;> simp

theorem blk3 (l : Fin 4) (k : Fin 1024) : iblk m c 3 t (ix3 l k 0) = normF (inC m c) (ix3 l k 0) := by
  blk_simp [iblk]
  rw [V_v3]
  refine congrArg (normF (inC m c)) (funext fun a => Fin.ext ?_)
  blk_simp [index3]
  fin_cases a <;> simp

theorem blk0 (j : Fin 2048) (e : Fin 64) : iblk m c 0 t (ix2 j e) =
    (shapeCast S36864x64 (inX m c) shapeCasts_S64x576x64_S36864x64 : (⟨S36864x64, .f32⟩ : BufTy).Contents (Elt Ideal)) (ix2 (rowOf t j) e) := by
  blk_simp [iblk]
  rw [V_v0]
  refine congrArg (shapeCast S36864x64 (inX m c) shapeCasts_S64x576x64_S36864x64 : (⟨S36864x64, .f32⟩ : BufTy).Contents (Elt Ideal)) (funext fun a => Fin.ext ?_)
  blk_simp [index0]
  fin_cases a <;> simp [rowOf]

theorem holds (h : ∀ i, inC m c i = (((inC m c i : EReal).toReal : ℝ) : EReal)) :
    Holds (iblk m c 1 t) (iblk m c 2 t) (iblk m c 3 t) (realC (inC m c)) where
  codes l k e := by rw [blk1, realC, dif_pos l.isLt]; exact h _
  high l k e := by rw [blk2, split_high, realC, dif_pos l.isLt]; exact h _
  mid l k e := by rw [blk2]; exact split_mid _ h l k e
  low l k e := by rw [blk2]; exact split_low _ h l k e
  norms l k := by rw [blk3]; exact normF_apply _ h l k

theorem latent (h : ∀ i, inX m c i = (((inX m c i : EReal).toReal : ℝ) : EReal)) (j : Fin 2048) (e : Fin 64) :
    iblk m c 0 t (ix2 j e) = ((realX (inX m c) (rowOf t j) e : ℝ) : EReal) := by
  rw [blk0]
  exact h _

end Cert.KVal
-- ==== Proof.KRun.lean ====
module

public import proofs.«01_k».proof.Proof.KIn
public import proofs.«01_k».proof.Proof.KBlock

/-!
The kernel's run: the arrays that it leaves, in terms of the codes picked for each row.
-/

@[expose] public section

set_option maxRecDepth 16384

noncomputable section

namespace Cert.KVal
open Idealize.ShloMosaic Idealize.ShloMosaic.TcCoe Idealize.SL.Sem Cert.KernelIdeal Cert.KernelIdeal.Gen
open Cert.Spec

/-- The sum of the picked codes, row by row. -/
def xqArr (x : (⟨S64x576x64, .f32⟩ : BufTy).Contents (Elt Ideal)) (cb : (⟨S4x1024x64, .f32⟩ : BufTy).Contents (Elt Ideal)) :
    (⟨S36864x64, .f32⟩ : BufTy).Contents (Elt Ideal) :=
  fun i => ((∑ l : Fin 4, realC cb l.val (pick (realC cb) (realX x (i 0)) l.val) (i 1) : ℝ) : EReal)

/-- The picked places, block by block and level by level. -/
def indArr (x : (⟨S64x576x64, .f32⟩ : BufTy).Contents (Elt Ideal)) (cb : (⟨S4x1024x64, .f32⟩ : BufTy).Contents (Elt Ideal)) :
    (⟨S18x4x2048, .i32⟩ : BufTy).Contents (Elt Ideal) :=
  fun i => BitVec.ofNat 32 (pick (realC cb) (realX x (rowOf (i 0) (i 2))) (i 1).val).val

variable (m : (ℓ : Loc nD τ sig) → Buf (Elt Ideal) ℓ) (c : Dev nD)

theorem index4 : ∀ t : Fin cfg0.N, win0_4.index t = ![t.val, 0] := by decide +kernel
theorem index5 : ∀ t : Fin cfg0.N, win0_5.index t = ![t.val, 0, 0] := by decide +kernel

variable (hX : ∀ i, inX m c i = (((inX m c i : EReal).toReal : ℝ) : EReal))
  (hC : ∀ i, inC m c i = (((inC m c i : EReal).toReal : ℝ) : EReal))
include hX hC

theorem arr_xq : (dats m 0 c).arrAt 4 (cfgs 0).N = xqArr (inX m c) (inC m c) := by
  refine (dats m 0 c).arrAt_eq_of_covers 4 _ (by decide +kernel) fun t hf y => ?_
  blk_simp
  rw [after0_4, xq_point]
  obtain ⟨j, e, rfl⟩ : ∃ j e, y = ix2 j e := ⟨y 0, y 1, by idx_vars y⟩
  refine (xqBlk_apply (holds m c t hC) (fun e => latent m c t hX _ e) _).trans ?_
  have e0 : ((win0_4.blk t).view.emb (ix2 j e)) 0 = rowOf t j := by
    apply Fin.ext; blk_simp [index4]; simp [rowOf]
  have e1 : ((win0_4.blk t).view.emb (ix2 j e)) 1 = e := by
    apply Fin.ext; blk_simp [index4]
  show _ = xqArr (inX m c) (inC m c) ((win0_4.blk t).view.emb (ix2 j e))
  rw [xqArr, e0, e1]

theorem arr_ind : (dats m 0 c).arrAt 5 (cfgs 0).N = indArr (inX m c) (inC m c) := by
  refine (dats m 0 c).arrAt_eq_of_covers 5 _ (by decide +kernel) fun t hf y => ?_
  blk_simp
  rw [after0_5, ind_point]
  obtain ⟨l, j, rfl⟩ : ∃ l j, y = ix3 0 l j := ⟨y 1, y 2, by idx_vars y; rw [Subsingleton.elim y0 0]⟩
  refine (indPieces_apply (holds m c t hC) (fun e => latent m c t hX _ e) l).trans ?_
  have e0 : ((win0_5.blk t).view.emb (ix3 0 l j)) 0 = t := by
    apply Fin.ext; blk_simp [index5]; simp
  have e1 : ((win0_5.blk t).view.emb (ix3 0 l j)) 1 = l := by
    apply Fin.ext; blk_simp [index5]
  have e2 : ((win0_5.blk t).view.emb (ix3 0 l j)) 2 = j := by
    apply Fin.ext; blk_simp [index5]
  show _ = indArr (inX m c) (inC m c) ((win0_5.blk t).view.emb (ix3 0 l j))
  rw [indArr, e0, e1, e2]

omit hX hC in
set_option maxHeartbeats 2000000 in
theorem readTail (W : Valuation τ sig (Elt Ideal)) :
    StableHlo.after hostOps1 W (Proc.devRef .tc main_v29) =
      (shapeCast S64x576x64 (W (Proc.devRef .tc main_v28_0)) shapeCasts_S36864x64_S64x576x64 :
        (⟨S64x576x64, .f32⟩ : BufTy).Contents (Elt Ideal)) ∧
    StableHlo.after hostOps1 W (Proc.devRef .tc main_v31) =
      (shapeCast S4x64x576 (transpose S4x18x2048 [1, 0, 2] (W (Proc.devRef .tc main_v28_1)) transposes_S18x4x2048_S4x18x2048_1_0_2) shapeCasts_S4x18x2048_S4x64x576 :
        (⟨S4x64x576, .i32⟩ : BufTy).Contents (Elt Ideal)) ∧
    StableHlo.after hostOps1 W (Proc.devRef .tc main_v32) =
      (shapeCast S_ (W (Proc.devRef .tc main_v28_2)) shapeCasts_S1x1_S_ : (⟨S_, .f32⟩ : BufTy).Contents (Elt Ideal)) ∧
    StableHlo.after hostOps1 W (Proc.devRef .tc main_v33) =
      (shapeCast S_ (W (Proc.devRef .tc main_v28_3)) shapeCasts_S1x1_S_ : (⟨S_, .i32⟩ : BufTy).Contents (Elt Ideal)) := by
  simp only [hostOps1]
  after_results_simp
  (repeat' apply And.intro) <;> first | rfl | trivial

omit hX hC in
/-- A run of the kernel leaves the four results, each a relaying of the array that the region leaves. -/
theorem run (ρ : Dev nD → PrngReg) : θ_run defs (onTc (τ := τ) (main (F := Ideal))) ⟨m, fun _ => 0, ρ⟩ (fun r => ∀ c : Dev nD,
      r.2.mem ((c.tc : Thread nD τ).loc main_v29) =
        (shapeCast S64x576x64 ((dats m 0 c).arrAt 4 (cfgs 0).N) shapeCasts_S36864x64_S64x576x64 : (⟨S64x576x64, .f32⟩ : BufTy).Contents (Elt Ideal))
      ∧ r.2.mem ((c.tc : Thread nD τ).loc main_v32) =
        (shapeCast S_ ((dats m 0 c).arrAt 6 (cfgs 0).N) shapeCasts_S1x1_S_ : (⟨S_, .f32⟩ : BufTy).Contents (Elt Ideal))
      ∧ r.2.mem ((c.tc : Thread nD τ).loc main_v33) =
        (shapeCast S_ ((dats m 0 c).arrAt 7 (cfgs 0).N) shapeCasts_S1x1_S_ : (⟨S_, .i32⟩ : BufTy).Contents (Elt Ideal))
      ∧ r.2.mem ((c.tc : Thread nD τ).loc main_v31) =
        (shapeCast S4x64x576 (transpose S4x18x2048 [1, 0, 2] ((dats m 0 c).arrAt 5 (cfgs 0).N) transposes_S18x4x2048_S4x18x2048_1_0_2) shapeCasts_S4x18x2048_S4x64x576 :
        (⟨S4x64x576, .i32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨t0, t1, t2, t3⟩ := readTail (Pipeline.withArrays (cfgs 0).spec c (V0 m c) fun w => (dats m 0 c).arrAt w (cfgs 0).N)
  have rest := fun (b : Ref sig .tc) hb => (h.1 c).2 b hb
  have arr := fun w => Pipeline.withArrays_arr (cfgs 0).spec (by decide) c (V0 m c) (fun w => (dats m 0 c).arrAt w (cfgs 0).N) w
  have a4 := arr 4
  have a5 := arr 5
  have a6 := arr 6
  have a7 := arr 7
  refine ⟨(rest main_v29 (Pipeline.mem_restRefs_of main_v29 (by decide) (by decide))).trans (t0.trans ?_),
    (rest main_v32 (Pipeline.mem_restRefs_of main_v32 (by decide) (by decide))).trans (t2.trans ?_),
    (rest main_v33 (Pipeline.mem_restRefs_of main_v33 (by decide) (by decide))).trans (t3.trans ?_),
    (rest main_v31 (Pipeline.mem_restRefs_of main_v31 (by decide) (by decide))).trans (t1.trans ?_), (h.2 c).1, (h.2 c).2⟩
  · exact congrArg (fun a : (⟨S36864x64, .f32⟩ : BufTy).Contents (Elt Ideal) => (shapeCast S64x576x64 a shapeCasts_S36864x64_S64x576x64 : (⟨S64x576x64, .f32⟩ : BufTy).Contents (Elt Ideal))) a4
  · exact congrArg (fun a : (⟨S1x1, .f32⟩ : BufTy).Contents (Elt Ideal) => (shapeCast S_ a shapeCasts_S1x1_S_ : (⟨S_, .f32⟩ : BufTy).Contents (Elt Ideal))) a6
  · exact congrArg (fun a : (⟨S1x1, .i32⟩ : BufTy).Contents (Elt Ideal) => (shapeCast S_ a shapeCasts_S1x1_S_ : (⟨S_, .i32⟩ : BufTy).Contents (Elt Ideal))) a7
  · exact congrArg (fun a : (⟨S18x4x2048, .i32⟩ : BufTy).Contents (Elt Ideal) => (shapeCast S4x64x576 (transpose S4x18x2048 [1, 0, 2] a transposes_S18x4x2048_S4x18x2048_1_0_2) shapeCasts_S4x18x2048_S4x64x576 : (⟨S4x64x576, .i32⟩ : BufTy).Contents (Elt Ideal))) a5

end Cert.KVal
-- ==== Proof.KLoss.lean ====
module

public import proofs.«01_k».proof.Proof.KRun

/-!
The sum of squared errors that the grid points carry along.
-/

@[expose] public section

set_option maxRecDepth 16384

noncomputable section

namespace Cert.KVal
open Idealize.ShloMosaic Idealize.ShloMosaic.TcCoe Idealize.SL.Sem Cert.KernelIdeal Cert.KernelIdeal.Gen

theorem one_place {α : Type} (p : S1x1.Idx → α) (i j : S1x1.Idx) : p i = p j :=
  congrArg p (funext fun a => by fin_cases a <;> exact Subsingleton.elim (α := Fin 1) _ _)

section Points
variable {F : FTy → Type} [FloatOps F] [Named F]
variable (m : (ℓ : Loc nD τ sig) → Buf (Elt F) ℓ) (c : Dev nD) (t : Fin cfg0.N)

/-- The first grid point leaves its block's error. -/
theorem loss_A (h0 : t.val % 18 = 0) : (outsAt0 m c t.val t.isLt).2.2.1 =
    fun _ => Scalar.addf (Scalar.ofBits .f32 0x00000000#32) (errBlk (iblk m c 0 t) (iblk m c 1 t) (iblk m c 2 t) (iblk m c 3 t)) := by
  rw [outsAt0_A m c t h0 (by omega)]
  frame_out
  simp only [lane_eq, pay13_eq, pay15_eq, pay16_eq, pay20_eq, pay21_eq, pay22_eq, pay23_eq, pay25_eq, pay26_eq, pay29_eq, pay30_eq,
    pay31_eq, pay32_eq, pay33_eq, pay34_eq, pay35_eq, pay36_eq, pay38_eq, pay41_eq, pay42_eq, pay44_eq, pay45_eq, pay46_eq,
    pay48_eq, pay49_eq]
  rfl

/-- A later grid point adds its block's error. -/
theorem loss_B (h0 : ¬t.val % 18 = 0) (h1 : ¬t.val % 18 = 17) : (outsAt0 m c t.val t.isLt).2.2.1 =
    fun _ => Scalar.addf ((outsAt0 m c (t.val - 1) (Nat.lt_of_le_of_lt (Nat.sub_le _ _) t.isLt)).2.2.1 (ix2 0 0))
      (errBlk (iblk m c 0 t) (iblk m c 1 t) (iblk m c 2 t) (iblk m c 3 t)) := by
  rw [outsAt0_B m c t h0 h1]
  frame_out
  simp only [lane_eq, pay13_eq, pay15_eq, pay16_eq, pay20_eq, pay21_eq, pay22_eq, pay23_eq, pay25_eq, pay26_eq, pay29_eq, pay30_eq,
    pay31_eq, pay32_eq, pay33_eq, pay34_eq, pay35_eq, pay36_eq, pay38_eq, pay41_eq, pay42_eq, pay44_eq, pay45_eq, pay46_eq,
    pay48_eq, pay49_eq]
  generalize (outsAt0 m c (t.val - 1) (Nat.lt_of_le_of_lt (Nat.sub_le _ _) t.isLt)).2.2.1 = p
  have e : View.ld p (Rect.unit ![0, 0] ![1, 1] inb_S1x1_S1x1_0_0) (Shape.Idx.first (by decide)) = p (ix2 0 0) := by
    unfold View.ld; exact one_place p _ _
  rw [← e]
  rfl

/-- The last grid point scales the sum. -/
theorem loss_C (h0 : ¬t.val % 18 = 0) (h1 : t.val % 18 = 17) : (outsAt0 m c t.val t.isLt).2.2.1 =
    fun _ => k0_pay6 (Scalar.addf ((outsAt0 m c (t.val - 1) (Nat.lt_of_le_of_lt (Nat.sub_le _ _) t.isLt)).2.2.1 (ix2 0 0))
      (errBlk (iblk m c 0 t) (iblk m c 1 t) (iblk m c 2 t) (iblk m c 3 t))) := by
  rw [outsAt0_C m c t h0 h1]
  frame_out
  simp only [lane_eq, pay13_eq, pay15_eq, pay16_eq, pay20_eq, pay21_eq, pay22_eq, pay23_eq, pay25_eq, pay26_eq, pay29_eq, pay30_eq,
    pay31_eq, pay32_eq, pay33_eq, pay34_eq, pay35_eq, pay36_eq, pay38_eq, pay41_eq, pay42_eq, pay44_eq, pay45_eq, pay46_eq,
    pay48_eq, pay49_eq]
  generalize (outsAt0 m c (t.val - 1) (Nat.lt_of_le_of_lt (Nat.sub_le _ _) t.isLt)).2.2.1 = p
  have e : View.ld p (Rect.unit ![0, 0] ![1, 1] inb_S1x1_S1x1_0_0) (Shape.Idx.first (by decide)) = p (ix2 0 0) := by
    unfold View.ld; exact one_place p _ _
  rw [← e]
  rfl
end Points

open Cert.Spec

/-- The squared error of row `x` at level `l`. -/
def rowErr (C : ℕ → Fin 1024 → Fin 64 → ℝ) (x : Fin 64 → ℝ) (l : ℕ) : ℝ :=
  ∑ e, (C l (pick C x l) e - resid C x l e) * (C l (pick C x l) e - resid C x l e)

theorem sqErr_apply (q r : FVec Ideal S64x2048 .f32) (Q R : Fin 64 → Fin 2048 → ℝ)
    (hq : ∀ e j, q (ix2 e j) = ((Q e j : ℝ) : EReal)) (hr : ∀ e j, r (ix2 e j) = ((R e j : ℝ) : EReal)) :
    sqErr q r = ((∑ j, ∑ e, (Q e j - R e j) * (Q e j - R e j) : ℝ) : EReal) := by
  refine (?_ : sqErr q r = ∑ e : Fin 64, ∑ j : Fin 2048, (q (ix2 e j) - r (ix2 e j)) * (q (ix2 e j) - r (ix2 e j))).trans ?_
  · pointwise [sqErr]
  · simp only [hq, hr, ← EReal.coe_sub, ← EReal.coe_mul, sum_coe]
    rw [Finset.sum_comm]

variable {x : Vec Ideal S2048x64 .f32} {a1 : Vec Ideal S4x1024x64 .f32} {a2 : Vec Ideal S4x1024x192 .bf16}
  {a3 : Vec Ideal S4x1024x1 .f32} {C : ℕ → Fin 1024 → Fin 64 → ℝ} {X : Fin 2048 → Fin 64 → ℝ}

theorem zero_word : (Scalar.ofBits .f32 0x00000000#32 : Ideal .f32) = ((0 : ℝ) : EReal) := by
  show Ideal.ofBits .f32 0x00000000#32 = _
  simp [Ideal.ofBits, Ideal.ieee]

theorem add_word (a b : Ideal .f32) : Scalar.addf a b = ((a : EReal) + (b : EReal) : EReal) := rfl

/-- A block's error, row by row. -/
theorem errBlk_apply (H : Holds a1 a2 a3 C) (hx : ∀ j e, x (ix2 j e) = ((X j e : ℝ) : EReal)) :
    errBlk x a1 a2 a3 = ((∑ l : Fin 4, ∑ j, rowErr C (X j) l.val : ℝ) : EReal) := by
  have h := fun l : Fin 4 => sqErr_apply (qv x a1 a2 a3 l.val) (res x a1 a2 a3 l.val)
    (fun e j => C l.val (pick C (X j) l.val) e) (fun e j => resid C (X j) l.val e)
    (fun e j => qv_apply H (hx j) l e) (fun e j => res_apply H (hx j) l.val l.isLt e)
  have h0 := h 0
  have h1 := h 1
  have h2 := h 2
  have h3 := h 3
  show (((Scalar.ofBits .f32 0x00000000#32 : Ideal .f32) + sqErr (qv x a1 a2 a3 (0 : Fin 4).val) (res x a1 a2 a3 (0 : Fin 4).val) +
    sqErr (qv x a1 a2 a3 (1 : Fin 4).val) (res x a1 a2 a3 (1 : Fin 4).val) +
    sqErr (qv x a1 a2 a3 (2 : Fin 4).val) (res x a1 a2 a3 (2 : Fin 4).val) +
    sqErr (qv x a1 a2 a3 (3 : Fin 4).val) (res x a1 a2 a3 (3 : Fin 4).val) : EReal)) = _
  rw [h0, h1, h2, h3, zero_word]
  simp only [← EReal.coe_add, Fin.sum_univ_four, zero_add]
  rfl

/-- The rows of all blocks are all rows. -/
theorem sum_rows (f : Fin 36864 → ℝ) : ∑ t : Fin cfg0.N, ∑ j : Fin 2048, f (rowOf t j) = ∑ n, f n := by
  rw [← Finset.sum_product', Finset.univ_product_univ]
  refine Fintype.sum_equiv ((finProdFinEquiv : Fin 18 × Fin 2048 ≃ Fin (18 * 2048))) _ f fun p => congrArg f (Fin.ext ?_)
  show p.1.val * 2048 + p.2.val = p.2.val + 2048 * p.1.val
  omega

variable (m : (ℓ : Loc nD τ sig) → Buf (Elt Ideal) ℓ) (c : Dev nD)
variable (hX : ∀ i, inX m c i = (((inX m c i : EReal).toReal : ℝ) : EReal))
  (hC : ∀ i, inC m c i = (((inC m c i : EReal).toReal : ℝ) : EReal))
include hX hC

/-- The squared error of block `t`. -/
def blkErr (t : Fin cfg0.N) : ℝ := ∑ l : Fin 4, ∑ j : Fin 2048, rowErr (realC (inC m c)) (realX (inX m c) (rowOf t j)) l.val

theorem blk_err (t : Fin cfg0.N) : errBlk (iblk m c 0 t) (iblk m c 1 t) (iblk m c 2 t) (iblk m c 3 t) = ((blkErr m c t : ℝ) : EReal) :=
  errBlk_apply (holds m c t hC) fun j e => latent m c t hX j e

/-- What the first points have added up. -/
theorem loss_upto (n : ℕ) : ∀ h : n < 17, (outsAt0 m c n (h.trans (by decide))).2.2.1 (ix2 0 0) =
    ((∑ t ∈ Finset.range (n + 1), (if h : t < cfg0.N then blkErr m c ⟨t, h⟩ else 0) : ℝ) : EReal) := by
  have hN : cfg0.N = 18 := N_0
  induction n with
  | zero =>
    intro h
    refine (congrFun (loss_A m c ⟨0, by omega⟩ rfl) (ix2 0 0)).trans ?_
    rw [blk_err m c hX hC, add_word, zero_word, ← EReal.coe_add, Finset.sum_range_one, dif_pos (by omega), zero_add]
  | succ n ih =>
    intro h
    refine (congrFun (loss_B m c ⟨n + 1, by omega⟩ (by dsimp only; omega) (by dsimp only; omega)) (ix2 0 0)).trans ?_
    rw [blk_err m c hX hC, add_word]
    refine (congrArg (fun a : EReal => a + _) (ih (by omega))).trans ?_
    rw [← EReal.coe_add, Finset.sum_range_succ _ (n + 1), dif_pos (by omega)]

end Cert.KVal
-- ==== Proof.RefOps.lean ====
module

public import proofs.«01_k».proof.Proof.Gen.ReferenceIdeal
public import Idealize.ShloMosaic.Lib.StableHlo.Run
public import Idealize.ShloMosaic.Lib.Pipeline.Frame

/-!
# The reference program as a list of operations

The reference runs the same operations at each of its four levels, on buffers of its own each time.
`Lev` names the buffers of one level, `levOps` lists the operations of a level over such a record, and
`ops` is the whole program: a prefix, the four levels and the assembly of the results.
-/

@[expose] public section

noncomputable section

namespace Cert.RefRun

open Cert.ReferenceIdeal Cert.ReferenceIdeal.Gen Idealize.ShloMosaic Idealize.ShloMosaic.TcCoe
open Idealize.SL.Sem Idealize.ShloMosaic.StableHlo

variable {F : FTy → Type} [FloatOps F]

/-- The buffers of one level: what the level reads (the residual rows `xin`, the loss, the count of unused
    codes and the sum of quantised rows so far), and one buffer for each value that the level computes. -/
structure Lev where
  off : Fin 3 → Nat
  sl : S4x1024x64.Slices off S1x1024x64
  xin : TRef sig ⟨S36864x64, .f32⟩
  lossIn : TRef sig ⟨S_, .f32⟩
  unusedIn : TRef sig ⟨S_, .i32⟩
  xqIn : TRef sig ⟨S36864x64, .f32⟩
  cs : TRef sig ⟨S1x1024x64, .f32⟩
  code : TRef sig ⟨S1024x64, .f32⟩
  rr : TRef sig ⟨S36864x64, .f32⟩
  z0 : TRef sig ⟨S_, .f32⟩
  rsq : TRef sig ⟨S36864, .f32⟩
  rsq1 : TRef sig ⟨S36864x1, .f32⟩
  two : TRef sig ⟨S_, .f32⟩
  twoB : TRef sig ⟨S36864x64, .f32⟩
  r2 : TRef sig ⟨S36864x64, .f32⟩
  codeT : TRef sig ⟨S64x1024, .f32⟩
  dot : TRef sig ⟨S36864x1024, .f32⟩
  rsqB : TRef sig ⟨S36864x1024, .f32⟩
  dif : TRef sig ⟨S36864x1024, .f32⟩
  cc : TRef sig ⟨S1024x64, .f32⟩
  z1 : TRef sig ⟨S_, .f32⟩
  csq : TRef sig ⟨S1024, .f32⟩
  csq1 : TRef sig ⟨S1024x1, .f32⟩
  csqT : TRef sig ⟨S1x1024, .f32⟩
  csqB : TRef sig ⟨S36864x1024, .f32⟩
  dist : TRef sig ⟨S36864x1024, .f32⟩
  am : fn_argmin.Bufs
  tk : fn_take.Bufs
  qr : TRef sig ⟨S36864x64, .f32⟩
  qr2 : TRef sig ⟨S36864x64, .f32⟩
  z2 : TRef sig ⟨S_, .f32⟩
  s1 : TRef sig ⟨S_, .f32⟩
  n1 : TRef sig ⟨S_, .f32⟩
  m1 : TRef sig ⟨S_, .f32⟩
  rq : TRef sig ⟨S36864x64, .f32⟩
  rq2 : TRef sig ⟨S36864x64, .f32⟩
  z3 : TRef sig ⟨S_, .f32⟩
  s2 : TRef sig ⟨S_, .f32⟩
  n2 : TRef sig ⟨S_, .f32⟩
  m2 : TRef sig ⟨S_, .f32⟩
  beta : TRef sig ⟨S_, .f32⟩
  bm : TRef sig ⟨S_, .f32⟩
  term : TRef sig ⟨S_, .f32⟩
  loss : TRef sig ⟨S_, .f32⟩
  c0 : TRef sig ⟨S_, .i32⟩
  hist0 : TRef sig ⟨S1024, .i32⟩
  lo : TRef sig ⟨S_, .i32⟩
  cl : fn_clip.Bufs
  c1 : TRef sig ⟨S_, .i32⟩
  c1B : TRef sig ⟨S36864, .i32⟩
  neg : TRef sig ⟨S36864, .i1⟩
  c2 : TRef sig ⟨S_, .i32⟩
  c2B : TRef sig ⟨S36864, .i32⟩
  idx2 : TRef sig ⟨S36864, .i32⟩
  idx3 : TRef sig ⟨S36864, .i32⟩
  idx4 : TRef sig ⟨S36864x1, .i32⟩
  one : TRef sig ⟨S_, .i32⟩
  oneB : TRef sig ⟨S36864, .i32⟩
  hist : TRef sig ⟨S1024, .i32⟩
  z4 : TRef sig ⟨S_, .i32⟩
  z4B : TRef sig ⟨S1024, .i32⟩
  isz : TRef sig ⟨S1024, .i1⟩
  iszx : TRef sig ⟨S1024, .i32⟩
  z5 : TRef sig ⟨S_, .i32⟩
  cnt : TRef sig ⟨S_, .i32⟩
  unused : TRef sig ⟨S_, .i32⟩
  xq : TRef sig ⟨S36864x64, .f32⟩
  res : TRef sig ⟨S36864x64, .f32⟩

/-- The buffers of level 0. -/
abbrev lev0 : Lev where
  off := ![0, 0, 0]
  sl := slices_S4x1024x64_S1x1024x64_0_0_0
  xin := .of main_v0
  lossIn := .of main_cst_8
  unusedIn := .of main_c_15
  xqIn := .of main_v1
  cs := .of main_v2
  code := .of main_v3
  rr := .of main_v4
  z0 := .of main_cst_0
  rsq := .of main_v5
  rsq1 := .of main_v6
  two := .of main_cst_1
  twoB := .of main_v7
  r2 := .of main_v8
  codeT := .of main_v9
  dot := .of main_v10
  rsqB := .of main_v11
  dif := .of main_v12
  cc := .of main_v13
  z1 := .of main_cst_2
  csq := .of main_v14
  csq1 := .of main_v15
  csqT := .of main_v16
  csqB := .of main_v17
  dist := .of main_v18
  am := main_call0
  tk := main_call1
  qr := .of main_v21
  qr2 := .of main_v22
  z2 := .of main_cst_3
  s1 := .of main_v23
  n1 := .of main_cst_4
  m1 := .of main_v24
  rq := .of main_v25
  rq2 := .of main_v26
  z3 := .of main_cst_5
  s2 := .of main_v27
  n2 := .of main_cst_6
  m2 := .of main_v28
  beta := .of main_cst_7
  bm := .of main_v29
  term := .of main_v30
  loss := .of main_v31
  c0 := .of main_c
  hist0 := .of main_v32
  lo := .of main_c_9
  cl := main_call2
  c1 := .of main_c_10
  c1B := .of main_v34
  neg := .of main_v35
  c2 := .of main_c_11
  c2B := .of main_v36
  idx2 := .of main_v37
  idx3 := .of main_v38
  idx4 := .of main_v39
  one := .of main_c_12
  oneB := .of main_v40
  hist := .of main_v41
  z4 := .of main_c_13
  z4B := .of main_v42
  isz := .of main_v43
  iszx := .of main_v44
  z5 := .of main_c_14
  cnt := .of main_v45
  unused := .of main_v46
  xq := .of main_v47
  res := .of main_v48

/-- The buffers of level 1. -/
abbrev lev1 : Lev where
  off := ![1, 0, 0]
  sl := slices_S4x1024x64_S1x1024x64_1_0_0
  xin := .of main_v48
  lossIn := .of main_v31
  unusedIn := .of main_v46
  xqIn := .of main_v47
  cs := .of main_v49
  code := .of main_v50
  rr := .of main_v51
  z0 := .of main_cst_16
  rsq := .of main_v52
  rsq1 := .of main_v53
  two := .of main_cst_17
  twoB := .of main_v54
  r2 := .of main_v55
  codeT := .of main_v56
  dot := .of main_v57
  rsqB := .of main_v58
  dif := .of main_v59
  cc := .of main_v60
  z1 := .of main_cst_18
  csq := .of main_v61
  csq1 := .of main_v62
  csqT := .of main_v63
  csqB := .of main_v64
  dist := .of main_v65
  am := main_call3
  tk := main_call4
  qr := .of main_v68
  qr2 := .of main_v69
  z2 := .of main_cst_19
  s1 := .of main_v70
  n1 := .of main_cst_20
  m1 := .of main_v71
  rq := .of main_v72
  rq2 := .of main_v73
  z3 := .of main_cst_21
  s2 := .of main_v74
  n2 := .of main_cst_22
  m2 := .of main_v75
  beta := .of main_cst_23
  bm := .of main_v76
  term := .of main_v77
  loss := .of main_v78
  c0 := .of main_c_24
  hist0 := .of main_v79
  lo := .of main_c_25
  cl := main_call5
  c1 := .of main_c_26
  c1B := .of main_v81
  neg := .of main_v82
  c2 := .of main_c_27
  c2B := .of main_v83
  idx2 := .of main_v84
  idx3 := .of main_v85
  idx4 := .of main_v86
  one := .of main_c_28
  oneB := .of main_v87
  hist := .of main_v88
  z4 := .of main_c_29
  z4B := .of main_v89
  isz := .of main_v90
  iszx := .of main_v91
  z5 := .of main_c_30
  cnt := .of main_v92
  unused := .of main_v93
  xq := .of main_v94
  res := .of main_v95

/-- The buffers of level 2. -/
abbrev lev2 : Lev where
  off := ![2, 0, 0]
  sl := slices_S4x1024x64_S1x1024x64_2_0_0
  xin := .of main_v95
  lossIn := .of main_v78
  unusedIn := .of main_v93
  xqIn := .of main_v94
  cs := .of main_v96
  code := .of main_v97
  rr := .of main_v98
  z0 := .of main_cst_31
  rsq := .of main_v99
  rsq1 := .of main_v100
  two := .of main_cst_32
  twoB := .of main_v101
  r2 := .of main_v102
  codeT := .of main_v103
  dot := .of main_v104
  rsqB := .of main_v105
  dif := .of main_v106
  cc := .of main_v107
  z1 := .of main_cst_33
  csq := .of main_v108
  csq1 := .of main_v109
  csqT := .of main_v110
  csqB := .of main_v111
  dist := .of main_v112
  am := main_call6
  tk := main_call7
  qr := .of main_v115
  qr2 := .of main_v116
  z2 := .of main_cst_34
  s1 := .of main_v117
  n1 := .of main_cst_35
  m1 := .of main_v118
  rq := .of main_v119
  rq2 := .of main_v120
  z3 := .of main_cst_36
  s2 := .of main_v121
  n2 := .of main_cst_37
  m2 := .of main_v122
  beta := .of main_cst_38
  bm := .of main_v123
  term := .of main_v124
  loss := .of main_v125
  c0 := .of main_c_39
  hist0 := .of main_v126
  lo := .of main_c_40
  cl := main_call8
  c1 := .of main_c_41
  c1B := .of main_v128
  neg := .of main_v129
  c2 := .of main_c_42
  c2B := .of main_v130
  idx2 := .of main_v131
  idx3 := .of main_v132
  idx4 := .of main_v133
  one := .of main_c_43
  oneB := .of main_v134
  hist := .of main_v135
  z4 := .of main_c_44
  z4B := .of main_v136
  isz := .of main_v137
  iszx := .of main_v138
  z5 := .of main_c_45
  cnt := .of main_v139
  unused := .of main_v140
  xq := .of main_v141
  res := .of main_v142

/-- The buffers of level 3. -/
abbrev lev3 : Lev where
  off := ![3, 0, 0]
  sl := slices_S4x1024x64_S1x1024x64_3_0_0
  xin := .of main_v142
  lossIn := .of main_v125
  unusedIn := .of main_v140
  xqIn := .of main_v141
  cs := .of main_v143
  code := .of main_v144
  rr := .of main_v145
  z0 := .of main_cst_46
  rsq := .of main_v146
  rsq1 := .of main_v147
  two := .of main_cst_47
  twoB := .of main_v148
  r2 := .of main_v149
  codeT := .of main_v150
  dot := .of main_v151
  rsqB := .of main_v152
  dif := .of main_v153
  cc := .of main_v154
  z1 := .of main_cst_48
  csq := .of main_v155
  csq1 := .of main_v156
  csqT := .of main_v157
  csqB := .of main_v158
  dist := .of main_v159
  am := main_call9
  tk := main_call10
  qr := .of main_v162
  qr2 := .of main_v163
  z2 := .of main_cst_49
  s1 := .of main_v164
  n1 := .of main_cst_50
  m1 := .of main_v165
  rq := .of main_v166
  rq2 := .of main_v167
  z3 := .of main_cst_51
  s2 := .of main_v168
  n2 := .of main_cst_52
  m2 := .of main_v169
  beta := .of main_cst_53
  bm := .of main_v170
  term := .of main_v171
  loss := .of main_v172
  c0 := .of main_c_54
  hist0 := .of main_v173
  lo := .of main_c_55
  cl := main_call11
  c1 := .of main_c_56
  c1B := .of main_v175
  neg := .of main_v176
  c2 := .of main_c_57
  c2B := .of main_v177
  idx2 := .of main_v178
  idx3 := .of main_v179
  idx4 := .of main_v180
  one := .of main_c_58
  oneB := .of main_v181
  hist := .of main_v182
  z4 := .of main_c_59
  z4B := .of main_v183
  isz := .of main_v184
  iszx := .of main_v185
  z5 := .of main_c_60
  cnt := .of main_v186
  unused := .of main_v187
  xq := .of main_v188
  res := .of main_v189

/-- The buffers of level `l`. -/
def lev (l : Fin 4) : Lev :=
  match l with
  | 0 => lev0
  | 1 => lev1
  | 2 => lev2
  | 3 => lev3

/-- One histogram: each entry of `u` added at the place that the same entry of the column `i` names. -/
def scatF (x : (⟨S1024, .i32⟩ : BufTy).Contents (Elt F)) (i : (⟨S36864x1, .i32⟩ : BufTy).Contents (Elt F))
    (u : (⟨S36864, .i32⟩ : BufTy).Contents (Elt F)) : (⟨S1024, .i32⟩ : BufTy).Contents (Elt F) :=
  Host.scatter scatter_S1024_S36864x1_S36864_n_0_0_1 IntOp.addi x i u

/-- The operations of the row-wise first minimum of `x`. -/
def argminOps (x : TRef sig ⟨S36864x1024, .f32⟩) (φ : fn_argmin.Bufs) : List (HloOp τ sig (Elt F)) :=
  [ TRef.nullary φ.v0 (iotaInDim S36864x1024 32 1),
    TRef.nullary φ.cst (constant S_ .f32 0x7F800000#32),
    TRef.nullary φ.c (constantI S_ 32 0#32),
    TRef.quaternary x φ.v0 φ.cst φ.c φ.v1_0 (fun x y u v j => (Host.argReduce reducer_argmin_f32_i32 x y u v reducesTo_S36864x1024_S36864_d1 h_S_ j).1),
    TRef.quaternary x φ.v0 φ.cst φ.c φ.v1_1 (fun x y u v j => (Host.argReduce reducer_argmin_f32_i32 x y u v reducesTo_S36864x1024_S36864_d1 h_S_ j).2) ]

/-- The operations that take the rows of `x` named by `a`. -/
def takeOps (x : TRef sig ⟨S1024x64, .f32⟩) (a : TRef sig ⟨S36864, .i32⟩) (φ : fn_take.Bufs) :
    List (HloOp τ sig (Elt F)) :=
  [ TRef.nullary φ.c (constantI S_ 32 0#32),
    TRef.unary φ.c φ.v0 (broadcastInDim S36864 ![] bcast_S_S36864),
    TRef.binary a φ.v0 φ.v1 (cmpi .slt),
    TRef.nullary φ.c_0 (constantI S_ 32 1024#32),
    TRef.unary φ.c_0 φ.v2 (broadcastInDim S36864 ![] bcast_S_S36864),
    TRef.binary a φ.v2 φ.v3 addi,
    TRef.ternary φ.v1 φ.v3 a φ.call0.v0 select,
    TRef.unary φ.call0.v0 φ.v5 (broadcastInDim S36864x1 ![0] bcast_S36864_S36864x1_0),
    TRef.nullary φ.c_1 (constantI S1 32 1023#32),
    TRef.nullary φ.c_2 (constantI S_ 32 0#32),
    TRef.unary φ.c_2 φ.v6 (broadcastInDim S36864x1 ![] bcast_S_S36864x1),
    TRef.binary φ.v5 φ.v6 φ.v7 (cmpi .sge),
    TRef.unary φ.c_1 φ.v8 (broadcastInDim S1x1 ![1] bcast_S1_S1x1_1),
    TRef.unary φ.v8 φ.v9 (broadcastInDim S36864x1 ![0, 1] bcast_S1x1_S36864x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S36864x1_S36864_d1 h_S_),
    TRef.binary x φ.v5 φ.v13 (fun x i => Host.gather gather_S1024x64_S36864x1_S36864x64_1_0_n_n_0_1_164 x i),
    TRef.unary φ.v12 φ.v14 (broadcastInDim S36864x64 ![0] bcast_S36864_S36864x64_0),
    TRef.nullary φ.cst (constant S_ .f32 0x7FC00000#32),
    TRef.unary φ.cst φ.v15 (broadcastInDim S36864x64 ![] bcast_S_S36864x64),
    TRef.ternary φ.v14 φ.v13 φ.v15 φ.v16 select ]

/-- The operations that clip `x` from below at `a`. -/
def clipOps (x : TRef sig ⟨S36864, .i32⟩) (a : TRef sig ⟨S_, .i32⟩) (φ : fn_clip.Bufs) :
    List (HloOp τ sig (Elt F)) :=
  [ TRef.unary a φ.v0 id,
    TRef.unary φ.v0 φ.v1 (broadcastInDim S36864 ![] bcast_S_S36864),
    TRef.binary φ.v1 x φ.v2 maxsi ]

/-- The squared distances of a level. -/
def winA (L : Lev) : List (HloOp τ sig (Elt F)) :=
  [ TRef.unary (.of main_arg1 : TRef sig ⟨S4x1024x64, .f32⟩) L.cs ((extractStridedSlice S1x1024x64 L.off · L.sl)),
    TRef.reshape L.cs L.code rfl shapeCasts_S1x1024x64_S1024x64,
    TRef.binary L.xin L.xin L.rr (mulf),
    TRef.nullary L.z0 (constant S_ .f32 0x00000000#32),
    TRef.binary L.rr L.z0 L.rsq ((fun x v => Host.reduceAdd x v reducesTo_S36864x64_S36864_d1 h_S_)),
    TRef.unary L.rsq L.rsq1 (broadcastInDim S36864x1 ![0] bcast_S36864_S36864x1_0),
    TRef.nullary L.two (constant S_ .f32 0x40000000#32),
    TRef.unary L.two L.twoB (broadcastInDim S36864x64 ![] bcast_S_S36864x64),
    TRef.binary L.twoB L.xin L.r2 (mulf),
    TRef.unary L.code L.codeT ((transpose S64x1024 [1, 0] · transposes_S1024x64_S64x1024_1_0)),
    TRef.binary L.r2 L.codeT L.dot ((fun l r => Host.dotGeneral dot_S36864x64_S64x1024_S36864x1024_1_0_0_1_n_n none l r)),
    TRef.unary L.rsq1 L.rsqB (broadcastInDim S36864x1024 ![0, 1] bcast_S36864x1_S36864x1024_0_1),
    TRef.binary L.rsqB L.dot L.dif (subf),
    TRef.binary L.code L.code L.cc (mulf),
    TRef.nullary L.z1 (constant S_ .f32 0x00000000#32),
    TRef.binary L.cc L.z1 L.csq ((fun x v => Host.reduceAdd x v reducesTo_S1024x64_S1024_d1 h_S_)),
    TRef.unary L.csq L.csq1 (broadcastInDim S1024x1 ![0] bcast_S1024_S1024x1_0),
    TRef.unary L.csq1 L.csqT ((transpose S1x1024 [1, 0] · transposes_S1024x1_S1x1024_1_0)),
    TRef.unary L.csqT L.csqB (broadcastInDim S36864x1024 ![0, 1] bcast_S1x1024_S36864x1024_0_1),
    TRef.binary L.dif L.csqB L.dist (addf) ]

/-- The loss term of a level. -/
def winL (L : Lev) : List (HloOp τ sig (Elt F)) :=
  [ TRef.binary L.tk.v16 L.xin L.qr (subf),
    TRef.binary L.qr L.qr L.qr2 (mulf),
    TRef.nullary L.z2 (constant S_ .f32 0x00000000#32),
    TRef.binary L.qr2 L.z2 L.s1 ((fun x v => Host.reduceAdd x v reducesTo_S36864x64_S_d0_1 h_S_)),
    TRef.nullary L.n1 (constant S_ .f32 0x4A100000#32),
    TRef.binary L.s1 L.n1 L.m1 (Host.divf),
    TRef.binary L.xin L.tk.v16 L.rq (subf),
    TRef.binary L.rq L.rq L.rq2 (mulf),
    TRef.nullary L.z3 (constant S_ .f32 0x00000000#32),
    TRef.binary L.rq2 L.z3 L.s2 ((fun x v => Host.reduceAdd x v reducesTo_S36864x64_S_d0_1 h_S_)),
    TRef.nullary L.n2 (constant S_ .f32 0x4A100000#32),
    TRef.binary L.s2 L.n2 L.m2 (Host.divf),
    TRef.nullary L.beta (constant S_ .f32 0x3E800000#32),
    TRef.binary L.beta L.m2 L.bm (mulf),
    TRef.binary L.m1 L.bm L.term (addf) ]

/-- The running loss of a level. -/
def winL2 (L : Lev) : List (HloOp τ sig (Elt F)) :=
  [ TRef.binary L.lossIn L.term L.loss (addf) ]

/-- A level's histogram of zeros and the lower clip bound. -/
def winH1 (L : Lev) : List (HloOp τ sig (Elt F)) :=
  [ TRef.nullary L.c0 (constantI S_ 32 0#32),
    TRef.unary L.c0 L.hist0 (broadcastInDim S1024 ![] bcast_S_S1024),
    TRef.nullary L.lo (constantI S_ 32 0#32) ]

/-- The indices wrapped into range. -/
def winH2a (L : Lev) : List (HloOp τ sig (Elt F)) :=
  [ TRef.nullary L.c1 (constantI S_ 32 0#32),
    TRef.unary L.c1 L.c1B (broadcastInDim S36864 ![] bcast_S_S36864),
    TRef.binary L.cl.v2 L.c1B L.neg (cmpi .slt),
    TRef.nullary L.c2 (constantI S_ 32 1024#32),
    TRef.unary L.c2 L.c2B (broadcastInDim S36864 ![] bcast_S_S36864),
    TRef.binary L.cl.v2 L.c2B L.idx2 (addi),
    TRef.ternary L.neg L.idx2 L.cl.v2 L.idx3 (select) ]

/-- The indices as a column, and the weight one. -/
def winH2b (L : Lev) : List (HloOp τ sig (Elt F)) :=
  [ TRef.unary L.idx3 L.idx4 (broadcastInDim S36864x1 ![0] bcast_S36864_S36864x1_0),
    TRef.nullary L.one (constantI S_ 32 1#32) ]

/-- A weight one for each row. -/
def winH2c (L : Lev) : List (HloOp τ sig (Elt F)) :=
  [ TRef.unary L.one L.oneB (broadcastInDim S36864 ![] bcast_S_S36864) ]

/-- Which codes have count zero. -/
def winH2d (L : Lev) : List (HloOp τ sig (Elt F)) :=
  [ TRef.nullary L.z4 (constantI S_ 32 0#32),
    TRef.unary L.z4 L.z4B (broadcastInDim S1024 ![] bcast_S_S1024),
    TRef.binary L.hist L.z4B L.isz (cmpi .eq) ]

/-- The number of codes that a level does not use. -/
def winH2e (L : Lev) : List (HloOp τ sig (Elt F)) :=
  [ TRef.unary L.isz L.iszx ((extui 32 · natLt_1_32)),
    TRef.nullary L.z5 (constantI S_ 32 0#32),
    TRef.binary L.iszx L.z5 L.cnt ((fun x v => Host.reduce IntOp.addi x v reducesTo_S1024_S_d0 h_S_)) ]

/-- The running count of unused codes, the sum of quantised rows, and the next residual. -/
def winU (L : Lev) : List (HloOp τ sig (Elt F)) :=
  [ TRef.binary L.unusedIn L.cnt L.unused (addi),
    TRef.binary L.xqIn L.tk.v16 L.xq (addf),
    TRef.binary L.xin L.tk.v16 L.res (subf) ]

/-- The operations before the levels. -/
def winPre : List (HloOp τ sig (Elt F)) :=
  [ reshape main_arg0 main_v0 (rfl : (.f32 : EltTy) = .f32) shapeCasts_S64x576x64_S36864x64,
    nullary main_cst (constant S_ .f32 0x00000000#32),
    TRef.unary (.of main_cst) (.of main_v1) (broadcastInDim S36864x64 ![] bcast_S_S36864x64) ]

/-- Four rows of indices, stacked. -/
def stackF (u0 u1 u2 u3 : (⟨S1x36864, .i32⟩ : BufTy).Contents (Elt F)) : (⟨S4x36864, .i32⟩ : BufTy).Contents (Elt F) :=
  concatenate S4x36864 0 [⟨S1x36864, u0⟩, ⟨S1x36864, u1⟩, ⟨S1x36864, u2⟩, ⟨S1x36864, u3⟩]
    concatenates_S1x36864_S1x36864_S1x36864_S1x36864_S4x36864_d0

/-- The operations after the levels. -/
def winPost : List (HloOp τ sig (Elt F)) :=
  [ binary main_v188 main_v0 main_v190 (subf : (⟨S36864x64, .f32⟩ : BufTy).Contents (Elt F) → (⟨S36864x64, .f32⟩ : BufTy).Contents (Elt F) → (⟨S36864x64, .f32⟩ : BufTy).Contents (Elt F)),
    binary main_v0 main_v190 main_v191 (addf : (⟨S36864x64, .f32⟩ : BufTy).Contents (Elt F) → (⟨S36864x64, .f32⟩ : BufTy).Contents (Elt F) → (⟨S36864x64, .f32⟩ : BufTy).Contents (Elt F)),
    reshape main_v191 main_v192 (rfl : (.f32 : EltTy) = .f32) shapeCasts_S36864x64_S64x576x64,
    unary main_v19 main_v193 (broadcastInDim S1x36864 ![1] bcast_S36864_S1x36864_1 : (⟨S36864, .i32⟩ : BufTy).Contents (Elt F) → (⟨S1x36864, .i32⟩ : BufTy).Contents (Elt F)),
    unary main_v66 main_v194 (broadcastInDim S1x36864 ![1] bcast_S36864_S1x36864_1 : (⟨S36864, .i32⟩ : BufTy).Contents (Elt F) → (⟨S1x36864, .i32⟩ : BufTy).Contents (Elt F)),
    unary main_v113 main_v195 (broadcastInDim S1x36864 ![1] bcast_S36864_S1x36864_1 : (⟨S36864, .i32⟩ : BufTy).Contents (Elt F) → (⟨S1x36864, .i32⟩ : BufTy).Contents (Elt F)),
    unary main_v160 main_v196 (broadcastInDim S1x36864 ![1] bcast_S36864_S1x36864_1 : (⟨S36864, .i32⟩ : BufTy).Contents (Elt F) → (⟨S1x36864, .i32⟩ : BufTy).Contents (Elt F)),
    nary ![main_v193, main_v194, main_v195, main_v196] main_v197 (fun u => stackF (F := F) (u 0) (u 1) (u 2) (u 3)),
    reshape main_v197 main_v198 (rfl : (.i32 : EltTy) = .i32) shapeCasts_S4x36864_S4x64x576 ]

/-- The two constants that only level 0 writes: where the running loss and the running count start. -/
def loss0 (l : Fin 4) : List (HloOp τ sig (Elt F)) :=
  match l with
  | 0 => [nullary main_cst_8 (constant S_ .f32 0x00000000#32)]
  | _ => []
@[inherit_doc loss0]
def unused0 (l : Fin 4) : List (HloOp τ sig (Elt F)) :=
  match l with
  | 0 => [nullary main_c_15 (constantI S_ 32 0#32)]
  | _ => []

/-- The histogram of level `l`. -/
def scatOp (l : Fin 4) : List (HloOp τ sig (Elt F)) :=
  match l with
  | 0 => [ternary main_v32 main_v39 main_v40 main_v41 scatF]
  | 1 => [ternary main_v79 main_v86 main_v87 main_v88 scatF]
  | 2 => [ternary main_v126 main_v133 main_v134 main_v135 scatF]
  | 3 => [ternary main_v173 main_v180 main_v181 main_v182 scatF]

/-- A level's distances, their row-wise first minimum, and the rows it names. -/
def headOps (L : Lev) : List (HloOp τ sig (Elt F)) :=
  winA L ++ argminOps L.dist L.am ++ takeOps L.code L.am.v1_1 L.tk

/-- The operations of level `l`. -/
def levOps (l : Fin 4) : List (HloOp τ sig (Elt F)) :=
  headOps (lev l) ++ winL (lev l) ++ loss0 l ++ winL2 (lev l) ++ winH1 (lev l) ++
    clipOps (lev l).am.v1_1 (lev l).lo (lev l).cl ++ winH2a (lev l) ++ winH2b (lev l) ++ winH2c (lev l) ++ scatOp l ++
    winH2d (lev l) ++ winH2e (lev l) ++ unused0 l ++ winU (lev l)

/-- The operations of the reference. -/
def ops : List (HloOp τ sig (Elt F)) :=
  winPre ++ levOps 0 ++ levOps 1 ++ levOps 2 ++ levOps 3 ++ winPost

/-- A level up to the histogram's clipped indices. -/
def upOps (L : Lev) (e : List (HloOp τ sig (Elt F))) : List (HloOp τ sig (Elt F)) :=
  headOps L ++ winL L ++ e ++ winL2 L ++ winH1 L ++ clipOps L.am.v1_1 L.lo L.cl ++ winH2a L

section Calls

variable (x : TRef sig ⟨S36864x1024, .f32⟩) (t : TRef sig ⟨S1024x64, .f32⟩) (a : TRef sig ⟨S36864, .i32⟩)
  (b : TRef sig ⟨S_, .i32⟩)

/-- The body of the first-minimum call is its list of operations. -/
theorem argmin_eq (φ : fn_argmin.Bufs) : seq (argminOps x φ) = fn_argmin.body (F := F) x φ := rfl
/-- The body of the take call is its list of operations. -/
theorem take_eq (φ : fn_take.Bufs) : seq (takeOps t a φ) = fn_take.body (F := F) t a φ := rfl
/-- The body of the clip call is its list of operations. -/
theorem clip_eq (φ : fn_clip.Bufs) : seq (clipOps a b φ) = fn_clip.body (F := F) a b φ := rfl

end Calls

end Cert.RefRun
-- ==== Proof.RefRead.lean ====
module

public import proofs.«01_k».proof.Proof.RefOps

/-!
# Reading the reference's levels

Each window of a level is read back as a pure function of the arrays that it finds.
-/

@[expose] public section

noncomputable section

namespace Cert.RefRun

open Cert.ReferenceIdeal Cert.ReferenceIdeal.Gen Idealize.ShloMosaic Idealize.ShloMosaic.TcCoe
open Idealize.SL.Sem Idealize.ShloMosaic.StableHlo

variable {F : FTy → Type} [FloatOps F]

/-- The contents of a buffer at the type of its value. -/
def get {T : BufTy} (x : TRef sig T) (V : Valuation τ sig (Elt F)) : T.Contents (Elt F) :=
  x.ofBuf (V (Proc.devRef .tc x.ref))

/-! ## The functions of the windows -/

/-- The code rows of level `l`. -/
def codeF (l : Fin 4) (cb : (⟨S4x1024x64, .f32⟩ : BufTy).Contents (Elt F)) : (⟨S1024x64, .f32⟩ : BufTy).Contents (Elt F) :=
  shapeCast S1024x64 (extractStridedSlice S1x1024x64 (lev l).off cb (lev l).sl) shapeCasts_S1x1024x64_S1024x64

/-- The squared distances of the rows `x` to the codes `c`: row norm, less twice the inner product, plus code norm. -/
def distF (x : (⟨S36864x64, .f32⟩ : BufTy).Contents (Elt F)) (c : (⟨S1024x64, .f32⟩ : BufTy).Contents (Elt F)) :
    (⟨S36864x1024, .f32⟩ : BufTy).Contents (Elt F) :=
  addf
    (subf
      (broadcastInDim S36864x1024 ![0, 1] bcast_S36864x1_S36864x1024_0_1
        (broadcastInDim S36864x1 ![0] bcast_S36864_S36864x1_0
          (Host.reduceAdd (mulf x x) (constant S_ .f32 0x00000000#32) reducesTo_S36864x64_S36864_d1 h_S_)))
      (Host.dotGeneral dot_S36864x64_S64x1024_S36864x1024_1_0_0_1_n_n none
        (mulf (broadcastInDim S36864x64 ![] bcast_S_S36864x64 (constant S_ .f32 0x40000000#32)) x)
        (transpose S64x1024 [1, 0] c transposes_S1024x64_S64x1024_1_0)))
    (broadcastInDim S36864x1024 ![0, 1] bcast_S1x1024_S36864x1024_0_1
      (transpose S1x1024 [1, 0]
        (broadcastInDim S1024x1 ![0] bcast_S1024_S1024x1_0
          (Host.reduceAdd (mulf c c) (constant S_ .f32 0x00000000#32) reducesTo_S1024x64_S1024_d1 h_S_))
        transposes_S1024x1_S1x1024_1_0))

/-- The index of the first least entry of each row. -/
def idxF (d : (⟨S36864x1024, .f32⟩ : BufTy).Contents (Elt F)) : (⟨S36864, .i32⟩ : BufTy).Contents (Elt F) :=
  fun j => (Host.argReduce reducer_argmin_f32_i32 d (iotaInDim S36864x1024 32 1) (constant S_ .f32 0x7F800000#32)
    (constantI S_ 32 0#32) reducesTo_S36864x1024_S36864_d1 h_S_ j).2

/-- An index, a negative one counted from the end. -/
def wrapF (i : (⟨S36864, .i32⟩ : BufTy).Contents (Elt F)) : (⟨S36864, .i32⟩ : BufTy).Contents (Elt F) :=
  select (cmpi .slt i (broadcastInDim S36864 ![] bcast_S_S36864 (constantI S_ 32 0#32)))
    (addi i (broadcastInDim S36864 ![] bcast_S_S36864 (constantI S_ 32 1024#32))) i

/-- The indices as a column. -/
def colF (i : (⟨S36864, .i32⟩ : BufTy).Contents (Elt F)) : (⟨S36864x1, .i32⟩ : BufTy).Contents (Elt F) :=
  broadcastInDim S36864x1 ![0] bcast_S36864_S36864x1_0 i

/-- The rows of `c` named by the column `w`, where the name is in range. -/
def rowsF (c : (⟨S1024x64, .f32⟩ : BufTy).Contents (Elt F)) (w : (⟨S36864x1, .i32⟩ : BufTy).Contents (Elt F)) :
    (⟨S36864x64, .f32⟩ : BufTy).Contents (Elt F) :=
  select
    (broadcastInDim S36864x64 ![0] bcast_S36864_S36864x64_0
      (Host.reduce IntOp.andi
        (andi (cmpi .sge w (broadcastInDim S36864x1 ![] bcast_S_S36864x1 (constantI S_ 32 0#32)))
          (cmpi .sle w (broadcastInDim S36864x1 ![0, 1] bcast_S1x1_S36864x1_0_1
            (broadcastInDim S1x1 ![1] bcast_S1_S1x1_1 (constantI S1 32 1023#32)))))
        (constantI S_ 1 1#1) reducesTo_S36864x1_S36864_d1 h_S_))
    (Host.gather gather_S1024x64_S36864x1_S36864x64_1_0_n_n_0_1_164 c w)
    (broadcastInDim S36864x64 ![] bcast_S_S36864x64 (constant S_ .f32 0x7FC00000#32))

/-- The mean of the squares of `d`'s entries. -/
def meanF (d : (⟨S36864x64, .f32⟩ : BufTy).Contents (Elt F)) : (⟨S_, .f32⟩ : BufTy).Contents (Elt F) :=
  Host.divf (Host.reduceAdd (mulf d d) (constant S_ .f32 0x00000000#32) reducesTo_S36864x64_S_d0_1 h_S_)
    (constant S_ .f32 0x4A100000#32)

/-- The loss term of a level whose rows `x` are quantised as `q`. -/
def termF (x q : (⟨S36864x64, .f32⟩ : BufTy).Contents (Elt F)) : (⟨S_, .f32⟩ : BufTy).Contents (Elt F) :=
  addf (meanF (subf q x)) (mulf (constant S_ .f32 0x3E800000#32) (meanF (subf x q)))

/-- The histogram of the indices in the column `w`. -/
def histF (w : (⟨S36864x1, .i32⟩ : BufTy).Contents (Elt F)) : (⟨S1024, .i32⟩ : BufTy).Contents (Elt F) :=
  scatF
    (broadcastInDim S1024 ![] bcast_S_S1024 (constantI S_ 32 0#32)) w
    (broadcastInDim S36864 ![] bcast_S_S36864 (constantI S_ 32 1#32))

/-- How many entries of the histogram `h` are zero. -/
def zerosF (h : (⟨S1024, .i32⟩ : BufTy).Contents (Elt F)) : (⟨S_, .i32⟩ : BufTy).Contents (Elt F) :=
  Host.reduce IntOp.addi
    (extui 32 (cmpi .eq h (broadcastInDim S1024 ![] bcast_S_S1024 (constantI S_ 32 0#32))) natLt_1_32)
    (constantI S_ 32 0#32) reducesTo_S1024_S_d0 h_S_

/-- The indices clipped from below at zero. -/
def clipF (i : (⟨S36864, .i32⟩ : BufTy).Contents (Elt F)) : (⟨S36864, .i32⟩ : BufTy).Contents (Elt F) :=
  maxsi (broadcastInDim S36864 ![] bcast_S_S36864 (constantI S_ 32 0#32)) i

/-- The running loss that level `l` adds to. -/
def lossStart (l : Fin 4) (x : (⟨S_, .f32⟩ : BufTy).Contents (Elt F)) : (⟨S_, .f32⟩ : BufTy).Contents (Elt F) :=
  match l with
  | 0 => constant S_ .f32 0x00000000#32
  | _ => x

/-- The running count that level `l` adds to. -/
def unusedStart (l : Fin 4) (x : (⟨S_, .i32⟩ : BufTy).Contents (Elt F)) : (⟨S_, .i32⟩ : BufTy).Contents (Elt F) :=
  match l with
  | 0 => constantI S_ 32 0#32
  | _ => x

/-! ## The windows read back -/

section Reads

set_option maxRecDepth 16384
set_option maxHeartbeats 4000000

/-- The distances and the code rows. -/
theorem readA (l : Fin 4) (V : Valuation τ sig (Elt F)) :
    get (lev l).dist (after (winA (lev l)) V) = distF (get (lev l).xin V) (codeF l (get (.of main_arg1 : TRef sig ⟨S4x1024x64, .f32⟩) V)) ∧
    get (lev l).code (after (winA (lev l)) V) = codeF l (get (.of main_arg1 : TRef sig ⟨S4x1024x64, .f32⟩) V) ∧
    get (lev l).xin (after (winA (lev l)) V) = get (lev l).xin V ∧
    get (lev l).lossIn (after (winA (lev l)) V) = get (lev l).lossIn V ∧
    get (lev l).unusedIn (after (winA (lev l)) V) = get (lev l).unusedIn V ∧
    get (lev l).xqIn (after (winA (lev l)) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [winA, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- The indices. -/
theorem readM (l : Fin 4) (V : Valuation τ sig (Elt F)) :
    get (lev l).am.v1_1 (after (argminOps (lev l).dist (lev l).am) V) = idxF (get (lev l).dist V) ∧
    get (lev l).code (after (argminOps (lev l).dist (lev l).am) V) = get (lev l).code V ∧
    get (lev l).xin (after (argminOps (lev l).dist (lev l).am) V) = get (lev l).xin V ∧
    get (lev l).lossIn (after (argminOps (lev l).dist (lev l).am) V) = get (lev l).lossIn V ∧
    get (lev l).unusedIn (after (argminOps (lev l).dist (lev l).am) V) = get (lev l).unusedIn V ∧
    get (lev l).xqIn (after (argminOps (lev l).dist (lev l).am) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [argminOps, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- The quantised rows. -/
theorem readT (l : Fin 4) (V : Valuation τ sig (Elt F)) :
    get (lev l).tk.v16 (after (takeOps (lev l).code (lev l).am.v1_1 (lev l).tk) V) = rowsF (get (lev l).code V) (colF (wrapF (get (lev l).am.v1_1 V))) ∧
    get (lev l).am.v1_1 (after (takeOps (lev l).code (lev l).am.v1_1 (lev l).tk) V) = get (lev l).am.v1_1 V ∧
    get (lev l).xin (after (takeOps (lev l).code (lev l).am.v1_1 (lev l).tk) V) = get (lev l).xin V ∧
    get (lev l).lossIn (after (takeOps (lev l).code (lev l).am.v1_1 (lev l).tk) V) = get (lev l).lossIn V ∧
    get (lev l).unusedIn (after (takeOps (lev l).code (lev l).am.v1_1 (lev l).tk) V) = get (lev l).unusedIn V ∧
    get (lev l).xqIn (after (takeOps (lev l).code (lev l).am.v1_1 (lev l).tk) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [takeOps, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- The running loss. -/
theorem readL (l : Fin 4) (V : Valuation τ sig (Elt F)) :
    get (lev l).loss (after (winL (lev l) ++ loss0 l ++ winL2 (lev l)) V) = addf (lossStart l (get (lev l).lossIn V)) (termF (get (lev l).xin V) (get (lev l).tk.v16 V)) ∧
    get (lev l).am.v1_1 (after (winL (lev l) ++ loss0 l ++ winL2 (lev l)) V) = get (lev l).am.v1_1 V ∧
    get (lev l).tk.v16 (after (winL (lev l) ++ loss0 l ++ winL2 (lev l)) V) = get (lev l).tk.v16 V ∧
    get (lev l).xin (after (winL (lev l) ++ loss0 l ++ winL2 (lev l)) V) = get (lev l).xin V ∧
    get (lev l).unusedIn (after (winL (lev l) ++ loss0 l ++ winL2 (lev l)) V) = get (lev l).unusedIn V ∧
    get (lev l).xqIn (after (winL (lev l) ++ loss0 l ++ winL2 (lev l)) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [winL, loss0, winL2, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- The wrapped indices. -/
theorem readH1 (l : Fin 4) (V : Valuation τ sig (Elt F)) :
    get (lev l).idx3 (after (winH1 (lev l) ++ clipOps (lev l).am.v1_1 (lev l).lo (lev l).cl ++ winH2a (lev l)) V) = wrapF (clipF (get (lev l).am.v1_1 V)) ∧
    get (lev l).hist0 (after (winH1 (lev l) ++ clipOps (lev l).am.v1_1 (lev l).lo (lev l).cl ++ winH2a (lev l)) V) = broadcastInDim S1024 ![] bcast_S_S1024 (constantI S_ 32 0#32) ∧
    get (lev l).am.v1_1 (after (winH1 (lev l) ++ clipOps (lev l).am.v1_1 (lev l).lo (lev l).cl ++ winH2a (lev l)) V) = get (lev l).am.v1_1 V ∧
    get (lev l).tk.v16 (after (winH1 (lev l) ++ clipOps (lev l).am.v1_1 (lev l).lo (lev l).cl ++ winH2a (lev l)) V) = get (lev l).tk.v16 V ∧
    get (lev l).loss (after (winH1 (lev l) ++ clipOps (lev l).am.v1_1 (lev l).lo (lev l).cl ++ winH2a (lev l)) V) = get (lev l).loss V ∧
    get (lev l).xin (after (winH1 (lev l) ++ clipOps (lev l).am.v1_1 (lev l).lo (lev l).cl ++ winH2a (lev l)) V) = get (lev l).xin V ∧
    get (lev l).unusedIn (after (winH1 (lev l) ++ clipOps (lev l).am.v1_1 (lev l).lo (lev l).cl ++ winH2a (lev l)) V) = get (lev l).unusedIn V ∧
    get (lev l).xqIn (after (winH1 (lev l) ++ clipOps (lev l).am.v1_1 (lev l).lo (lev l).cl ++ winH2a (lev l)) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [winH1, clipOps, winH2a, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- The histogram. -/
theorem readH2 (l : Fin 4) (V : Valuation τ sig (Elt F)) :
    get (lev l).hist (after (winH2b (lev l) ++ winH2c (lev l) ++ scatOp l) V) = scatF (get (lev l).hist0 V) (colF (get (lev l).idx3 V)) (broadcastInDim S36864 ![] bcast_S_S36864 (constantI S_ 32 1#32)) ∧
    get (lev l).am.v1_1 (after (winH2b (lev l) ++ winH2c (lev l) ++ scatOp l) V) = get (lev l).am.v1_1 V ∧
    get (lev l).tk.v16 (after (winH2b (lev l) ++ winH2c (lev l) ++ scatOp l) V) = get (lev l).tk.v16 V ∧
    get (lev l).loss (after (winH2b (lev l) ++ winH2c (lev l) ++ scatOp l) V) = get (lev l).loss V ∧
    get (lev l).xin (after (winH2b (lev l) ++ winH2c (lev l) ++ scatOp l) V) = get (lev l).xin V ∧
    get (lev l).unusedIn (after (winH2b (lev l) ++ winH2c (lev l) ++ scatOp l) V) = get (lev l).unusedIn V ∧
    get (lev l).xqIn (after (winH2b (lev l) ++ winH2c (lev l) ++ scatOp l) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [winH2b, winH2c, scatOp, List.append_assoc, List.cons_append, List.nil_append, TRef.binary, TRef.nullary, TRef.ternary,
       TRef.unary, TRef.quaternary, TRef.reshape, TRef.toBuf, TRef.ofBuf]
     after_results_simp
     refine ⟨?_, trivial, trivial, trivial, trivial, trivial, trivial⟩
     exact (cast_eq _ _).trans (congr (congr (congrArg scatF rfl) rfl) rfl))

/-- The number of codes that no row names. -/
theorem readH3 (l : Fin 4) (V : Valuation τ sig (Elt F)) :
    get (lev l).cnt (after (winH2d (lev l) ++ winH2e (lev l)) V) = zerosF (get (lev l).hist V) ∧
    get (lev l).am.v1_1 (after (winH2d (lev l) ++ winH2e (lev l)) V) = get (lev l).am.v1_1 V ∧
    get (lev l).tk.v16 (after (winH2d (lev l) ++ winH2e (lev l)) V) = get (lev l).tk.v16 V ∧
    get (lev l).loss (after (winH2d (lev l) ++ winH2e (lev l)) V) = get (lev l).loss V ∧
    get (lev l).xin (after (winH2d (lev l) ++ winH2e (lev l)) V) = get (lev l).xin V ∧
    get (lev l).unusedIn (after (winH2d (lev l) ++ winH2e (lev l)) V) = get (lev l).unusedIn V ∧
    get (lev l).xqIn (after (winH2d (lev l) ++ winH2e (lev l)) V) = get (lev l).xqIn V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [winH2d, winH2e, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- The running count, the sum of quantised rows and the next residual. -/
theorem readU (l : Fin 4) (V : Valuation τ sig (Elt F)) :
    get (lev l).unused (after (unused0 l ++ winU (lev l)) V) = addi (unusedStart l (get (lev l).unusedIn V)) (get (lev l).cnt V) ∧
    get (lev l).xq (after (unused0 l ++ winU (lev l)) V) = addf (get (lev l).xqIn V) (get (lev l).tk.v16 V) ∧
    get (lev l).res (after (unused0 l ++ winU (lev l)) V) = subf (get (lev l).xin V) (get (lev l).tk.v16 V) ∧
    get (lev l).am.v1_1 (after (unused0 l ++ winU (lev l)) V) = get (lev l).am.v1_1 V ∧
    get (lev l).loss (after (unused0 l ++ winU (lev l)) V) = get (lev l).loss V := by
  match l with
  | 0 | 1 | 2 | 3 =>
    (dsimp only [get, lev, lev0, lev1, lev2, lev3, main_call0, main_call1, main_call1_call0, main_call2, main_call3,
       main_call4, main_call4_call0, main_call5, main_call6, main_call7, main_call7_call0, main_call8, main_call9,
       main_call10, main_call10_call0, main_call11, lossStart, unusedStart]
     simp only [unused0, winU, List.append_assoc, List.cons_append, List.nil_append, TRef.binary, TRef.nullary, TRef.ternary,
       TRef.unary, TRef.quaternary, TRef.reshape, TRef.toBuf, TRef.ofBuf, cast_eq]
     after_results_simp
     (repeat' apply And.intro) <;> first | rfl | trivial)

/-- A level read back: its indices, its running loss and count, the sum of quantised rows and the next residual. -/
theorem readLev (l : Fin 4) (V : Valuation τ sig (Elt F)) :
    let x := get (lev l).xin V
    let c := codeF l (get (.of main_arg1 : TRef sig ⟨S4x1024x64, .f32⟩) V)
    let i := idxF (distF x c)
    let q := rowsF c (colF (wrapF i))
    get (lev l).am.v1_1 (after (levOps l) V) = i ∧
    get (lev l).loss (after (levOps l) V) = addf (lossStart l (get (lev l).lossIn V)) (termF x q) ∧
    get (lev l).unused (after (levOps l) V) =
      addi (unusedStart l (get (lev l).unusedIn V)) (zerosF (histF (colF (wrapF (clipF i))))) ∧
    get (lev l).xq (after (levOps l) V) = addf (get (lev l).xqIn V) q ∧
    get (lev l).res (after (levOps l) V) = subf x q := by
  intro x c i q
  obtain ⟨a1, a2, a3, a4, a5, a6⟩ := readA l V
  obtain ⟨b1, b2, b3, b4, b5, b6⟩ := readM l (after (winA (lev l)) V)
  obtain ⟨c1, c2, c3, c4, c5, c6⟩ := readT l (after (argminOps (lev l).dist (lev l).am) (after (winA (lev l)) V))
  set V3 := after (takeOps (lev l).code (lev l).am.v1_1 (lev l).tk)
    (after (argminOps (lev l).dist (lev l).am) (after (winA (lev l)) V)) with hV3
  obtain ⟨d1, d2, d3, d4, d5, d6⟩ := readL l V3
  set V4 := after (winL (lev l) ++ loss0 l ++ winL2 (lev l)) V3 with hV4
  obtain ⟨e1, e2, e3, e4, e5, e6, e7, e8⟩ := readH1 l V4
  set V5 := after (winH1 (lev l) ++ clipOps (lev l).am.v1_1 (lev l).lo (lev l).cl ++ winH2a (lev l)) V4 with hV5
  obtain ⟨f1, f2, f3, f4, f5, f6, f7⟩ := readH2 l V5
  set V6 := after (winH2b (lev l) ++ winH2c (lev l) ++ scatOp l) V5 with hV6
  obtain ⟨g1, g2, g3, g4, g5, g6, g7⟩ := readH3 l V6
  set V7 := after (winH2d (lev l) ++ winH2e (lev l)) V6 with hV7
  obtain ⟨h1, h2, h3, h4, h5⟩ := readU l V7
  have hV : after (levOps l) V = after (unused0 l ++ winU (lev l)) V7 := by
    rw [hV7, hV6, hV5, hV4, hV3]
    simp only [levOps, headOps, after_append]
  have hi3 : get (lev l).am.v1_1 V3 = i := by rw [c2, b1, a1]
  have hq3 : get (lev l).tk.v16 V3 = q := by rw [c1, b2, b1, a1, a2]
  have hx3 : get (lev l).xin V3 = x := by rw [c3, b3, a3]
  have hi7 : get (lev l).am.v1_1 V7 = i := by rw [g2, f2, e3, d2, hi3]
  have hq7 : get (lev l).tk.v16 V7 = q := by rw [g3, f3, e4, d3, hq3]
  have hl7 : get (lev l).loss V7 = addf (lossStart l (get (lev l).lossIn V)) (termF x q) := by
    rw [g4, f4, e5, d1, hx3, hq3, c4, b4, a4]
  have hx7 : get (lev l).xin V7 = x := by rw [g5, f5, e6, d4, hx3]
  have hc7 : get (lev l).cnt V7 = zerosF (histF (colF (wrapF (clipF i)))) := by
    rw [g1, f1, e1, e2, d2, hi3]; rfl
  have hu7 : get (lev l).unusedIn V7 = get (lev l).unusedIn V := by rw [g6, f6, e7, d5, c5, b5, a5]
  have hz7 : get (lev l).xqIn V7 = get (lev l).xqIn V := by rw [g7, f7, e8, d6, c6, b6, a6]
  rw [hV]
  exact ⟨by rw [h4, hi7], by rw [h5, hl7], by rw [h1, hu7, hc7], by rw [h2, hz7, hq7], by rw [h3, hx7, hq7]⟩

end Reads

end Cert.RefRun
-- ==== Proof.RefVals.lean ====
module

public import proofs.«01_k».proof.Proof.RefRead

/-!
# The reference's results

The four results as functions of the codebooks and of the latents' rows, level by level.
-/

@[expose] public section

noncomputable section

namespace Cert.RefRun

open Cert.ReferenceIdeal Cert.ReferenceIdeal.Gen Idealize.ShloMosaic Idealize.ShloMosaic.TcCoe
open Idealize.SL.Sem Idealize.ShloMosaic.StableHlo

variable {F : FTy → Type} [FloatOps F]

set_option maxRecDepth 16384
set_option maxHeartbeats 4000000

/-! ## The results -/

/-- The quantised rows of level `l` for the residual rows `x`. -/
def qF (cb : (⟨S4x1024x64, .f32⟩ : BufTy).Contents (Elt F)) (l : Fin 4) (x : (⟨S36864x64, .f32⟩ : BufTy).Contents (Elt F)) :
    (⟨S36864x64, .f32⟩ : BufTy).Contents (Elt F) :=
  rowsF (codeF l cb) (colF (wrapF (idxF (distF x (codeF l cb)))))

/-- The indices of level `l` for the residual rows `x`. -/
def iF (cb : (⟨S4x1024x64, .f32⟩ : BufTy).Contents (Elt F)) (l : Fin 4) (x : (⟨S36864x64, .f32⟩ : BufTy).Contents (Elt F)) :
    (⟨S36864, .i32⟩ : BufTy).Contents (Elt F) :=
  idxF (distF x (codeF l cb))

/-- The number of codes of level `l` that no residual row of `x` names. -/
def uF (cb : (⟨S4x1024x64, .f32⟩ : BufTy).Contents (Elt F)) (l : Fin 4) (x : (⟨S36864x64, .f32⟩ : BufTy).Contents (Elt F)) :
    (⟨S_, .i32⟩ : BufTy).Contents (Elt F) :=
  zerosF (histF (colF (wrapF (clipF (iF cb l x)))))

/-- The residual rows after level `l`. -/
def stepF (cb : (⟨S4x1024x64, .f32⟩ : BufTy).Contents (Elt F)) (l : Fin 4) (x : (⟨S36864x64, .f32⟩ : BufTy).Contents (Elt F)) :
    (⟨S36864x64, .f32⟩ : BufTy).Contents (Elt F) :=
  subf x (qF cb l x)

/-- The residual rows that level `l` reads, from the rows `x`. -/
def resF (cb : (⟨S4x1024x64, .f32⟩ : BufTy).Contents (Elt F)) (x : (⟨S36864x64, .f32⟩ : BufTy).Contents (Elt F)) (l : Fin 4) :
    (⟨S36864x64, .f32⟩ : BufTy).Contents (Elt F) :=
  match l with
  | 0 => x
  | 1 => stepF cb 0 x
  | 2 => stepF cb 1 (stepF cb 0 x)
  | 3 => stepF cb 2 (stepF cb 1 (stepF cb 0 x))

/-- The rows of the latents. -/
def rows0 (a : (⟨S64x576x64, .f32⟩ : BufTy).Contents (Elt F)) : (⟨S36864x64, .f32⟩ : BufTy).Contents (Elt F) :=
  shapeCast S36864x64 a shapeCasts_S64x576x64_S36864x64

variable (cb : (⟨S4x1024x64, .f32⟩ : BufTy).Contents (Elt F)) (x : (⟨S36864x64, .f32⟩ : BufTy).Contents (Elt F))

/-- The sum of the quantised rows over the levels. -/
def xqF : (⟨S36864x64, .f32⟩ : BufTy).Contents (Elt F) :=
  addf (addf (addf (addf (broadcastInDim S36864x64 ![] bcast_S_S36864x64 (constant S_ .f32 0x00000000#32))
    (qF cb 0 (resF cb x 0))) (qF cb 1 (resF cb x 1))) (qF cb 2 (resF cb x 2))) (qF cb 3 (resF cb x 3))

/-- The first result: the rows, moved to the sum of their quantised rows. -/
def out0 : (⟨S64x576x64, .f32⟩ : BufTy).Contents (Elt F) :=
  shapeCast S64x576x64 (addf x (subf (xqF cb x) x)) shapeCasts_S36864x64_S64x576x64

/-- The second result: the loss. -/
def out1 : (⟨S_, .f32⟩ : BufTy).Contents (Elt F) :=
  addf (addf (addf (addf (constant S_ .f32 0x00000000#32)
    (termF (resF cb x 0) (qF cb 0 (resF cb x 0)))) (termF (resF cb x 1) (qF cb 1 (resF cb x 1))))
    (termF (resF cb x 2) (qF cb 2 (resF cb x 2)))) (termF (resF cb x 3) (qF cb 3 (resF cb x 3)))

/-- The third result: the number of codes that no row names. -/
def out2 : (⟨S_, .i32⟩ : BufTy).Contents (Elt F) :=
  addi (addi (addi (addi (constantI S_ 32 0#32) (uF cb 0 (resF cb x 0))) (uF cb 1 (resF cb x 1)))
    (uF cb 2 (resF cb x 2))) (uF cb 3 (resF cb x 3))

/-- The fourth result: the indices, level by level. -/
def out3 : (⟨S4x64x576, .i32⟩ : BufTy).Contents (Elt F) :=
  shapeCast S4x64x576
    (stackF (broadcastInDim S1x36864 ![1] bcast_S36864_S1x36864_1 (iF cb 0 (resF cb x 0)))
      (broadcastInDim S1x36864 ![1] bcast_S36864_S1x36864_1 (iF cb 1 (resF cb x 1)))
      (broadcastInDim S1x36864 ![1] bcast_S36864_S1x36864_1 (iF cb 2 (resF cb x 2)))
      (broadcastInDim S1x36864 ![1] bcast_S36864_S1x36864_1 (iF cb 3 (resF cb x 3))))
    shapeCasts_S4x36864_S4x64x576

end Cert.RefRun
-- ==== Proof.RefLevel.lean ====
module

public import proofs.«01_k».proof.Proof.RefVals
public import proofs.«01_k».proof.Proof.Spec
public import Idealize.ShloMosaic.Lib.Pointwise
public import Idealize.ShloMosaic.Lib.ReduceAll
public import Idealize.ShloMosaic.Lib.ValueIdxCore

/-!
The reference's level read at one row, at the ideal reading: its distances, the first nearest code, and the row
that it names are those of `Cert.Spec`.
-/

@[expose] public section

set_option maxRecDepth 16384

noncomputable section

namespace Cert.RefRun
open Cert.ReferenceIdeal Cert.ReferenceIdeal.Gen Idealize.ShloMosaic Idealize.ShloMosaic.TcCoe
open Cert.Spec

theorem two_eq : Ideal.ofBits .f32 0x40000000#32 = ((2 : ℝ) : EReal) := by
  simp [Ideal.ofBits, Ideal.ieee]
  rw [← EReal.coe_mul]
  norm_num

theorem top_eq : Ideal.ofBits .f32 0x7F800000#32 = ⊤ := by
  simp [Ideal.ofBits, Ideal.ieee]

theorem codeF_apply (cb : (⟨S4x1024x64, .f32⟩ : BufTy).Contents (Elt Ideal)) (l : Fin 4) (k : Fin 1024) (e : Fin 64) :
    codeF l cb (ix2 k e) = cb (ix3 l k e) := by
  fin_cases l <;> pointwise [codeF, lev, lev0, lev1, lev2, lev3] <;> rfl

theorem distF_apply (x : (⟨S36864x64, .f32⟩ : BufTy).Contents (Elt Ideal)) (c : (⟨S1024x64, .f32⟩ : BufTy).Contents (Elt Ideal))
    (R : Fin 64 → ℝ) (C : Fin 1024 → Fin 64 → ℝ) (n : Fin 36864) (k : Fin 1024)
    (hr : ∀ e, x (ix2 n e) = ((R e : ℝ) : EReal)) (hc : ∀ k e, c (ix2 k e) = ((C k e : ℝ) : EReal)) :
    distF x c (ix2 n k) = ((sqd R (C k) : ℝ) : EReal) := by
  pointwise [distF]
  rw [two_eq]
  simp only [hc, hr, ← EReal.coe_mul, sum_coe, ← EReal.coe_sub, ← EReal.coe_add]
  refine congrArg _ ?_
  rw [sqd, Finset.mul_sum]
  refine congrArg₂ (· + ·) (congrArg₂ (· - ·) rfl (Finset.sum_congr rfl fun e _ => ?_)) rfl
  ring

/-! ## The first least entry of a row -/

theorem small_toInt (k : ℕ) (h : k ≤ 1024) : (BitVec.ofNat 32 k).toInt = k := by
  have e : (BitVec.ofNat 32 k).toNat = k := by rw [BitVec.toNat_ofNat]; omega
  rw [BitVec.toInt_eq_toNat_of_lt (by omega), e]

/-- The reducer keeps the lesser entry, and of two equal ones the place that comes first. -/
theorem reducer_eq (a b : EReal × BitVec 32) : reducer_argmin_f32_i32 (F := Ideal) a b =
    if a.1 < b.1 then a else if a.1 = b.1 ∧ a.2.toInt < b.2.toInt then (b.1, a.2) else b := by
  show (Scalar.select (IntOp.ori (BitVec.ofBool (decide (a.1 < b.1))) (BitVec.ofBool (decide (a.1 ≠ a.1)))) a.1 b.1,
    Scalar.select (IntOp.ori (IntOp.ori (BitVec.ofBool (decide (a.1 < b.1))) (BitVec.ofBool (decide (a.1 ≠ a.1))))
      (IntOp.andi (BitVec.ofBool (decide (a.1 = b.1))) (BitVec.ofBool (decide (a.2.toInt < b.2.toInt))))) a.2 b.2) = _
  rw [decide_eq_false (p := a.1 ≠ a.1) (fun h => h rfl)]
  by_cases h1 : a.1 < b.1
  · rw [if_pos h1, decide_eq_true h1, decide_eq_false h1.ne]
    cases decide (a.2.toInt < b.2.toInt) <;> rfl
  · rw [if_neg h1, decide_eq_false h1]
    by_cases h2 : a.1 = b.1
    · by_cases h3 : a.2.toInt < b.2.toInt
      · rw [if_pos ⟨h2, h3⟩, decide_eq_true h2, decide_eq_true h3]; rfl
      · rw [if_neg (fun h => h3 h.2), decide_eq_true h2, decide_eq_false h3]; rfl
    · rw [if_neg (fun h => h2 h.1), decide_eq_false h2]
      cases decide (a.2.toInt < b.2.toInt) <;> rfl

/-- A row's entry at place `k`, with its place. -/
def entry (D : Fin 1024 → ℝ) (k : Fin 1024) : EReal × BitVec 32 := (((D k : ℝ) : EReal), BitVec.ofNat 32 k.val)

/-- What the reduction holds once it has met the places in `S`. -/
def Met (D : Fin 1024 → ℝ) (S : Finset (Fin 1024)) (r : EReal × BitVec 32) : Prop :=
  (S = ∅ ∧ r.1 = ⊤) ∨ ∃ k ∈ S, r = entry D k ∧ ∀ j ∈ S, D k ≤ D j ∧ (D j = D k → k ≤ j)

theorem met_step {D : Fin 1024 → ℝ} {S : Finset (Fin 1024)} {r : EReal × BitVec 32} (h : Met D S r) (k : Fin 1024) :
    Met D (insert k S) (reducer_argmin_f32_i32 (F := Ideal) r (entry D k)) := by
  rw [reducer_eq]
  rcases h with ⟨rfl, hr⟩ | ⟨i, hi, rfl, hbest⟩
  · have h1 : ¬ r.1 < (entry D k).1 := by rw [hr]; exact not_top_lt
    have h2 : r.1 ≠ (entry D k).1 := by rw [hr]; exact (EReal.coe_ne_top _).symm
    rw [if_neg h1, if_neg (fun h => h2 h.1)]
    exact .inr ⟨k, by simp, rfl, by simp⟩
  · have e1 : (entry D i).1 < (entry D k).1 ↔ D i < D k := EReal.coe_lt_coe_iff
    have e2 : (entry D i).1 = (entry D k).1 ↔ D i = D k := EReal.coe_eq_coe_iff
    have e3 : (entry D i).2.toInt < (entry D k).2.toInt ↔ i < k := by
      show (BitVec.ofNat 32 i.val).toInt < (BitVec.ofNat 32 k.val).toInt ↔ _
      rw [small_toInt i.val (by omega), small_toInt k.val (by omega), Nat.cast_lt]; rfl
    simp only [e1, e2, e3]
    by_cases h1 : D i < D k
    · rw [if_pos h1]
      refine .inr ⟨i, by simp [hi], rfl, fun j hj => ?_⟩
      rcases Finset.mem_insert.mp hj with rfl | hj
      · exact ⟨h1.le, fun h => absurd h h1.ne'⟩
      · exact hbest j hj
    · rw [if_neg h1]
      by_cases h2 : D i = D k ∧ i < k
      · rw [if_pos h2]
        refine .inr ⟨i, by simp [hi], ?_, fun j hj => ?_⟩
        · show (((D k : ℝ) : EReal), BitVec.ofNat 32 i.val) = _
          rw [← h2.1]; rfl
        · rcases Finset.mem_insert.mp hj with rfl | hj
          · exact ⟨h2.1.le, fun _ => h2.2.le⟩
          · exact hbest j hj
      · rw [if_neg h2]
        refine .inr ⟨k, by simp, rfl, fun j hj => ?_⟩
        rcases Finset.mem_insert.mp hj with rfl | hj
        · exact ⟨le_rfl, fun _ => le_rfl⟩
        · have hj' := hbest j hj
          refine ⟨(not_lt.mp h1).trans hj'.1, fun h => ?_⟩
          have hik : D i = D k := le_antisymm (hj'.1.trans h.le) (not_lt.mp h1)
          have hki : k ≤ i := not_lt.mp fun hlt => h2 ⟨hik, hlt⟩
          exact hki.trans (hj'.2 (h.trans hik.symm))

theorem met_fold {D : Fin 1024 → ℝ} (ks : List (Fin 1024)) : ∀ {S : Finset (Fin 1024)} {r : EReal × BitVec 32}, Met D S r →
    Met D (S ∪ ks.toFinset) ((ks.map (entry D)).foldl (reducer_argmin_f32_i32 (F := Ideal)) r) := by
  induction ks with
  | nil => intro S r h; simpa using h
  | cons k ks ih =>
    intro S r h
    have := ih (met_step h k)
    rw [List.toFinset_cons, Finset.union_insert, ← Finset.insert_union]
    exact this

theorem drop_iff {N : ℕ} (hr : (⟨2, ![N, 1024]⟩ : Shape).ReducesTo [1] ⟨1, ![N]⟩) (n : Fin N)
    (i : (⟨2, ![N, 1024]⟩ : Shape).Idx) : hr.drop i = ix1 n ↔ i = ix2 n (i 1) := by
  have hv : (hr.drop i 0 : Nat) = i 0 := Shape.ReducesTo.drop_apply_val _ i 0
  constructor
  · intro e
    rw [e] at hv
    exact (eq_ix2 i).trans (congrArg (fun a => ix2 a (i 1)) (Fin.ext hv.symm))
  · intro e
    have e0 : (i 0 : Nat) = n := by rw [e]; rfl
    funext a
    obtain rfl : a = 0 := Subsingleton.elim _ _
    exact Fin.ext (hv.trans e0)

/-- The entries that a row's reduction meets: every place of the row, in some order. -/
theorem fiber_eq {N : ℕ} (hr : (⟨2, ![N, 1024]⟩ : Shape).ReducesTo [1] ⟨1, ![N]⟩)
    (d : (⟨2, ![N, 1024]⟩ : Shape).Idx → EReal) (D : Fin 1024 → ℝ) (n : Fin N)
    (h : ∀ k, d (ix2 n k) = ((D k : ℝ) : EReal)) : ∃ ks : List (Fin 1024), (∀ k, k ∈ ks) ∧
      Host.argReduceFiber d (iotaInDim ⟨2, ![N, 1024]⟩ 32 1) hr (ix1 n) = ks.map (entry D) := by
  unfold Host.argReduceFiber
  refine ⟨((List.finRange (⟨2, ![N, 1024]⟩ : Shape).numel).filter fun p => hr.drop ((⟨2, ![N, 1024]⟩ : Shape).rowMajor.symm p) = ix1 n).map
    fun p => ((⟨2, ![N, 1024]⟩ : Shape).rowMajor.symm p) 1, fun k => ?_, ?_⟩
  · refine List.mem_map.mpr ⟨(⟨2, ![N, 1024]⟩ : Shape).rowMajor (ix2 n k), List.mem_filter.mpr ⟨List.mem_finRange _, ?_⟩, ?_⟩
    · rw [Equiv.symm_apply_apply]; exact decide_eq_true ((drop_iff hr n _).mpr rfl)
    · rw [Equiv.symm_apply_apply]; rfl
  · refine Eq.trans (List.map_congr_left fun p hp => ?_) (List.map_map (f := fun p => ((⟨2, ![N, 1024]⟩ : Shape).rowMajor.symm p) 1) (g := entry D)).symm
    have hi := (drop_iff hr n _).mp (of_decide_eq_true (List.mem_filter.mp hp).2)
    generalize hq : (⟨2, ![N, 1024]⟩ : Shape).rowMajor.symm p = i at hi
    show (d i, iotaInDim ⟨2, ![N, 1024]⟩ 32 1 i) = entry D (((⟨2, ![N, 1024]⟩ : Shape).rowMajor.symm p) 1)
    rw [hq]
    show (d i, BitVec.ofNat 32 (i 1).val) = (((D (i 1) : ℝ) : EReal), BitVec.ofNat 32 (i 1).val)
    exact congrArg (fun a => (a, BitVec.ofNat 32 (i 1).val)) ((congrArg d hi).trans (h (i 1)))

theorem first_least {N : ℕ} {u : Shape} (hr : (⟨2, ![N, 1024]⟩ : Shape).ReducesTo [1] ⟨1, ![N]⟩) (hu : 0 < u.numel)
    (d : FVec Ideal ⟨2, ![N, 1024]⟩ .f32) (iv : FVec Ideal u .f32) (ii : IVec u 32) (hv : iv (Shape.Idx.first hu) = ⊤)
    (D : Fin 1024 → ℝ) (n : Fin N) (h : ∀ k, d (ix2 n k) = ((D k : ℝ) : EReal)) :
    (Host.argReduce (F := Ideal) (φ := .f32) reducer_argmin_f32_i32 d (iotaInDim ⟨2, ![N, 1024]⟩ 32 1) iv ii hr hu (ix1 n)).2 =
      BitVec.ofNat 32 (best D).val := by
  rw [Ideal.argReduce_eq_reduce2, Host.reduce2_eq_foldl_fiber]
  obtain ⟨ks, hall, hks⟩ := fiber_eq hr d D n h
  have key := met_fold (D := D) ks (S := ∅) (r := (iv (Shape.Idx.first hu), ii (Shape.Idx.first hu))) (.inl ⟨rfl, hv⟩)
  rw [← hks] at key
  rcases key with ⟨hS, -⟩ | ⟨k, -, hr, hb⟩
  · exact absurd hS (Finset.ne_empty_of_mem (Finset.mem_union_right _ (List.mem_toFinset.mpr (hall 0))))
  · have hk : k = best D := eq_best fun j => hb j (Finset.mem_union_right _ (List.mem_toFinset.mpr (hall j)))
    rw [← hk]
    exact congrArg Prod.snd hr

/-- The first least place of each row, the starting entry and place given. -/
def firstF {N : ℕ} {u : Shape} (hr : (⟨2, ![N, 1024]⟩ : Shape).ReducesTo [1] ⟨1, ![N]⟩) (hu : 0 < u.numel)
    (d : FVec Ideal ⟨2, ![N, 1024]⟩ .f32) (iv : FVec Ideal u .f32) (ii : IVec u 32) : IVec ⟨1, ![N]⟩ 32 :=
  fun j => (Host.argReduce (F := Ideal) (φ := .f32) reducer_argmin_f32_i32 d (iotaInDim ⟨2, ![N, 1024]⟩ 32 1) iv ii hr hu j).2

theorem firstF_apply {N : ℕ} {u : Shape} (hr : (⟨2, ![N, 1024]⟩ : Shape).ReducesTo [1] ⟨1, ![N]⟩) (hu : 0 < u.numel)
    (d : FVec Ideal ⟨2, ![N, 1024]⟩ .f32) (iv : FVec Ideal u .f32) (ii : IVec u 32) (hv : iv (Shape.Idx.first hu) = (⊤ : EReal))
    (D : Fin 1024 → ℝ) (n : Fin N) (h : ∀ k, d (ix2 n k) = ((D k : ℝ) : EReal)) :
    firstF hr hu d iv ii (ix1 n) = BitVec.ofNat 32 (best D).val :=
  first_least hr hu d iv ii hv D n h

theorem start_top : (constant S_ .f32 0x7F800000#32 : FVec Ideal S_ .f32) (Shape.Idx.first h_S_) = (⊤ : EReal) := top_eq

theorem idxF_eq (d : (⟨S36864x1024, .f32⟩ : BufTy).Contents (Elt Ideal)) :
    idxF d = firstF reducesTo_S36864x1024_S36864_d1 h_S_ d (constant S_ .f32 0x7F800000#32) (constantI S_ 32 0#32) := rfl

theorem idxF_apply (d : (⟨S36864x1024, .f32⟩ : BufTy).Contents (Elt Ideal)) (D : Fin 1024 → ℝ) (n : Fin 36864)
    (h : ∀ k, d (ix2 n k) = ((D k : ℝ) : EReal)) : idxF d (ix1 n) = BitVec.ofNat 32 (best D).val :=
  (congrFun (idxF_eq d) (ix1 n)).trans (firstF_apply _ _ d _ _ start_top D n h)

/-! ## The rows that the places name -/

theorem wrapF_apply (i : (⟨S36864, .i32⟩ : BufTy).Contents (Elt Ideal)) (n : Fin 36864) (k : Fin 1024)
    (h : i (ix1 n) = BitVec.ofNat 32 k.val) : wrapF i (ix1 n) = BitVec.ofNat 32 k.val := by
  pointwise [wrapF]
  rw [h]
  have : IntOp.cmpi .slt (BitVec.ofNat 32 k.val) 0#32 = 0#1 := by
    show BitVec.ofBool (decide ((BitVec.ofNat 32 k.val).toInt < (0#32 : BitVec 32).toInt)) = 0#1
    rw [small_toInt k.val (by omega), decide_eq_false (by simp)]; rfl
  rw [this]; rfl

theorem colF_apply (i : (⟨S36864, .i32⟩ : BufTy).Contents (Elt Ideal)) (n : Fin 36864) : colF i (ix2 n 0) = i (ix1 n) := by
  pointwise [colF]

/-- The dimensions of the reading of rows by their places. -/
abbrev gatherD : GatherDims S1024x64 S36864x1 S36864x64 := gather_S1024x64_S36864x1_S36864x64_1_0_n_n_0_1_164

theorem gather_apply (c : (⟨S1024x64, .f32⟩ : BufTy).Contents (Elt Ideal)) (w : (⟨S36864x1, .i32⟩ : BufTy).Contents (Elt Ideal))
    (n : Fin 36864) (e : Fin 64) (k : Fin 1024) (h : w (ix2 n 0) = BitVec.ofNat 32 k.val) :
    Host.gather gather_S1024x64_S36864x1_S36864x64_1_0_n_n_0_1_164 c w (ix2 n e) = c (ix2 k e) := by
  unfold Host.gather
  refine congrArg c (funext fun a => Fin.ext ?_)
  show gatherD.start (ix2 n e) w a + gatherD.batchCoord (ix2 n e) a + gatherD.offCoord (ix2 n e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherD.startIndexMap from List.mem_singleton.mpr rfl)]
    have hsi : gatherD.siIdx (ix2 n e) ⟨List.idxOf (0 : Fin 2) gatherD.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, h, small_toInt k.val (by omega)]
    show min k.val 1023 = k.val
    omega
  · have e1 : gatherD.start (ix2 n e) w 1 = 0 := by
      unfold GatherDims.start
      exact dif_neg (by decide)
    have e2 : gatherD.batchCoord (ix2 n e) 1 = 0 := GatherDims.batchCoord_eq_zero _ _ _ List.not_mem_nil
    rw [e1, e2]
    show 0 + 0 + gatherD.offCoord (ix2 n e) 1 = e.val
    unfold GatherDims.offCoord
    rw [dif_pos (by decide)]
    simp only [Nat.zero_add]
    rfl

theorem rowsF_apply (c : (⟨S1024x64, .f32⟩ : BufTy).Contents (Elt Ideal)) (w : (⟨S36864x1, .i32⟩ : BufTy).Contents (Elt Ideal))
    (hw : ∀ n, ∃ k : Fin 1024, w (ix2 n 0) = BitVec.ofNat 32 k.val)
    (n : Fin 36864) (e : Fin 64) (k : Fin 1024) (h : w (ix2 n 0) = BitVec.ofNat 32 k.val) :
    rowsF c w (ix2 n e) = c (ix2 k e) := by
  have hm : ∀ j, Host.reduce IntOp.andi
        (andi (cmpi .sge w (broadcastInDim S36864x1 ![] bcast_S_S36864x1 (constantI S_ 32 0#32)))
          (cmpi .sle w (broadcastInDim S36864x1 ![0, 1] bcast_S1x1_S36864x1_0_1
            (broadcastInDim S1x1 ![1] bcast_S1_S1x1_1 (constantI S1 32 1023#32)))))
        (constantI S_ 1 1#1) reducesTo_S36864x1_S36864_d1 h_S_ j = 1#1 := fun j =>
    Host.reduce_andi_one _ _ _ _ _ rfl fun i => by
      obtain ⟨a, b, rfl⟩ : ∃ a b, i = ix2 a b := ⟨i 0, i 1, eq_ix2 i⟩
      obtain rfl : b = 0 := Subsingleton.elim _ _
      obtain ⟨k, hk⟩ := hw a
      pointwise
      rw [hk]
      have h1 : IntOp.cmpi .sge (BitVec.ofNat 32 k.val) 0#32 = 1#1 := by
        show BitVec.ofBool (decide ((0#32 : BitVec 32).toInt ≤ (BitVec.ofNat 32 k.val).toInt)) = 1#1
        rw [small_toInt k.val (by omega), decide_eq_true (by simp)]; rfl
      have h2 : IntOp.cmpi .sle (BitVec.ofNat 32 k.val) 1023#32 = 1#1 := by
        show BitVec.ofBool (decide ((BitVec.ofNat 32 k.val).toInt ≤ (1023#32 : BitVec 32).toInt)) = 1#1
        have : (1023#32 : BitVec 32).toInt = 1023 := by decide
        rw [small_toInt k.val (by omega), this, decide_eq_true (by omega)]; rfl
      rw [h1, h2]; rfl
  unfold rowsF
  rw [funext hm]
  exact gather_apply c w n e k h

/-! ## The levels -/

variable {cb : (⟨S4x1024x64, .f32⟩ : BufTy).Contents (Elt Ideal)} {C : ℕ → Fin 1024 → Fin 64 → ℝ}
  (hC : ∀ (l : Fin 4) k e, cb (ix3 l k e) = ((C l.val k e : ℝ) : EReal))
include hC

theorem iF_apply {x : (⟨S36864x64, .f32⟩ : BufTy).Contents (Elt Ideal)} (R : Fin 64 → ℝ) (l : Fin 4) (n : Fin 36864)
    (hx : ∀ e, x (ix2 n e) = ((R e : ℝ) : EReal)) :
    iF cb l x (ix1 n) = BitVec.ofNat 32 (best fun k => sqd R (C l.val k)).val :=
  idxF_apply _ _ n fun k => distF_apply x _ R (C l.val) n k hx fun k e => (codeF_apply cb l k e).trans (hC l k e)

theorem qF_apply {x : (⟨S36864x64, .f32⟩ : BufTy).Contents (Elt Ideal)} (R : Fin 36864 → Fin 64 → ℝ) (l : Fin 4)
    (hx : ∀ n e, x (ix2 n e) = ((R n e : ℝ) : EReal)) (n : Fin 36864) (e : Fin 64) :
    qF cb l x (ix2 n e) = ((C l.val (best fun k => sqd (R n) (C l.val k)) e : ℝ) : EReal) := by
  have hcol : ∀ n, colF (wrapF (idxF (distF x (codeF l cb)))) (ix2 n 0) = BitVec.ofNat 32 (best fun k => sqd (R n) (C l.val k)).val :=
    fun n => (colF_apply _ n).trans (wrapF_apply _ n _ (iF_apply hC (R n) l n (hx n)))
  exact (rowsF_apply _ _ (fun n => ⟨_, hcol n⟩) n e _ (hcol n)).trans ((codeF_apply cb l _ e).trans (hC l _ e))

theorem stepF_apply {x : (⟨S36864x64, .f32⟩ : BufTy).Contents (Elt Ideal)} (R : Fin 36864 → Fin 64 → ℝ) (l : Fin 4)
    (hx : ∀ n e, x (ix2 n e) = ((R n e : ℝ) : EReal)) (n : Fin 36864) (e : Fin 64) :
    stepF cb l x (ix2 n e) = ((R n e - C l.val (best fun k => sqd (R n) (C l.val k)) e : ℝ) : EReal) := by
  have h1 := hx n e
  have h2 := qF_apply hC R l hx n e
  rw [EReal.coe_sub]
  exact congrArg₂ (fun a b : EReal => a - b) h1 h2

theorem resF_apply {x : (⟨S36864x64, .f32⟩ : BufTy).Contents (Elt Ideal)} (X : Fin 36864 → Fin 64 → ℝ)
    (hx : ∀ n e, x (ix2 n e) = ((X n e : ℝ) : EReal)) (l : Fin 4) (n : Fin 36864) (e : Fin 64) :
    resF cb x l (ix2 n e) = ((resid C (X n) l.val e : ℝ) : EReal) := by
  have h1 := stepF_apply hC X 0 hx
  have h2 := stepF_apply hC _ 1 h1
  have h3 := stepF_apply hC _ 2 h2
  fin_cases l
  · exact hx n e
  · exact h1 n e
  · exact h2 n e
  · exact h3 n e

theorem indF_apply {x : (⟨S36864x64, .f32⟩ : BufTy).Contents (Elt Ideal)} (X : Fin 36864 → Fin 64 → ℝ)
    (hx : ∀ n e, x (ix2 n e) = ((X n e : ℝ) : EReal)) (l : Fin 4) (n : Fin 36864) :
    iF cb l (resF cb x l) (ix1 n) = BitVec.ofNat 32 (pick C (X n) l.val).val :=
  iF_apply hC _ l n (resF_apply hC X hx l n)

theorem quant_apply {x : (⟨S36864x64, .f32⟩ : BufTy).Contents (Elt Ideal)} (X : Fin 36864 → Fin 64 → ℝ)
    (hx : ∀ n e, x (ix2 n e) = ((X n e : ℝ) : EReal)) (l : Fin 4) (n : Fin 36864) (e : Fin 64) :
    qF cb l (resF cb x l) (ix2 n e) = ((C l.val (pick C (X n) l.val) e : ℝ) : EReal) :=
  qF_apply hC _ l (resF_apply hC X hx l) n e

end Cert.RefRun
-- ==== Proof.Meet.lean ====
module

public import proofs.«01_k».proof.Proof.RefLevel
public import proofs.«01_k».proof.Proof.KRun

/-!
Where the kernel's results meet the reference's.
-/

@[expose] public section

set_option maxRecDepth 16384

noncomputable section

namespace Cert.KVal
open Idealize.ShloMosaic Idealize.ShloMosaic.TcCoe Idealize.SL.Sem Cert.KernelIdeal Cert.KernelIdeal.Gen
open Cert.Spec

variable {x : (⟨S64x576x64, .f32⟩ : BufTy).Contents (Elt Ideal)} {cb : (⟨S4x1024x64, .f32⟩ : BufTy).Contents (Elt Ideal)}
  (hX : ∀ i, x i = (((x i : EReal).toReal : ℝ) : EReal)) (hC : ∀ i, cb i = (((cb i : EReal).toReal : ℝ) : EReal))

include hC in
theorem codes_real (l : Fin 4) (k : Fin 1024) (e : Fin 64) : cb (ix3 l k e) = ((realC cb l.val k e : ℝ) : EReal) := by
  rw [realC, dif_pos l.isLt]; exact hC _

include hX in
theorem rows_real (n : Fin 36864) (e : Fin 64) : RefRun.rows0 (F := Ideal) x (ix2 n e) = ((realX x n e : ℝ) : EReal) := hX _

include hX hC

theorem meet_xq : (addf (φ := .f32) (RefRun.rows0 (F := Ideal) x) (subf (φ := .f32) (RefRun.xqF (F := Ideal) cb (RefRun.rows0 (F := Ideal) x)) (RefRun.rows0 (F := Ideal) x)) : FVec Ideal S36864x64 .f32) = xqArr x cb := by
  funext i
  obtain ⟨n, e, rfl⟩ : ∃ n e, i = ix2 n e := ⟨i 0, i 1, eq_ix2 i⟩
  have hq := fun l => RefRun.quant_apply (codes_real hC) (realX x) (rows_real hX) l n e
  pointwise [RefRun.xqF]
  rw [hq 0, hq 1, hq 2, hq 3, rows_real hX n e]
  simp only [← EReal.coe_add, ← EReal.coe_sub]
  show _ = ((_ : ℝ) : EReal)
  refine congrArg _ ?_
  rw [Fin.sum_univ_four, add_sub_cancel]
  rfl

/-- The first result of the reference is the kernel's. -/
theorem meet_out0 : RefRun.out0 (F := Ideal) cb (RefRun.rows0 (F := Ideal) x) =
    (shapeCast S64x576x64 (xqArr x cb) shapeCasts_S36864x64_S64x576x64 : (⟨S64x576x64, .f32⟩ : BufTy).Contents (Elt Ideal)) :=
  congrArg (fun a : (⟨S36864x64, .f32⟩ : BufTy).Contents (Elt Ideal) => (shapeCast S64x576x64 a shapeCasts_S36864x64_S64x576x64 : (⟨S64x576x64, .f32⟩ : BufTy).Contents (Elt Ideal)))
    (meet_xq hX hC)

omit hX hC in
theorem split_apply (B : (⟨S18x4x2048, .i32⟩ : BufTy).Contents (Elt Ideal)) (l : Fin 4) (n : Fin 36864) :
    (shapeCast ReferenceIdeal.S4x36864 (transpose S4x18x2048 [1, 0, 2] B transposes_S18x4x2048_S4x18x2048_1_0_2) (by decide) : (⟨ReferenceIdeal.S4x36864, .i32⟩ : BufTy).Contents (Elt Ideal)) (ix2 l n) = B (ix3 ⟨n.val / 2048, by omega⟩ l ⟨n.val % 2048, by omega⟩) := by
  pointwise

omit hX hC in
theorem stack_apply (u : Fin 4 → (⟨ReferenceIdeal.S1x36864, .i32⟩ : BufTy).Contents (Elt Ideal)) (l : Fin 4) (n : Fin 36864) :
    RefRun.stackF (F := Ideal) (u 0) (u 1) (u 2) (u 3) (ix2 l n) = u l (ix2 0 n) := by
  fin_cases l <;> pointwise [RefRun.stackF]

omit hX hC in
/-- Four rows of picked places, stacked. -/
theorem meet_stack (u : Fin 4 → (⟨ReferenceIdeal.S1x36864, .i32⟩ : BufTy).Contents (Elt Ideal))
    (hu : ∀ l n, u l (ix2 0 n) = BitVec.ofNat 32 (pick (realC cb) (realX x n) l.val).val) :
    RefRun.stackF (F := Ideal) (u 0) (u 1) (u 2) (u 3) =
    (shapeCast ReferenceIdeal.S4x36864 (transpose S4x18x2048 [1, 0, 2] (indArr x cb) transposes_S18x4x2048_S4x18x2048_1_0_2) (by decide) : (⟨ReferenceIdeal.S4x36864, .i32⟩ : BufTy).Contents (Elt Ideal)) := by
  funext i
  obtain ⟨l, n, rfl⟩ : ∃ l n, i = ix2 l n := ⟨i 0, i 1, eq_ix2 i⟩
  rw [split_apply, stack_apply, hu]
  have e : rowOf (⟨n.val / 2048, lt_of_lt_of_eq (by omega) N_0.symm⟩ : Fin cfg0.N) ⟨n.val % 2048, by omega⟩ = n := Fin.ext (by simp only [rowOf]; omega)
  show _ = BitVec.ofNat 32 (pick (realC cb) (realX x (rowOf (⟨n.val / 2048, lt_of_lt_of_eq (by omega) N_0.symm⟩ : Fin cfg0.N) ⟨n.val % 2048, by omega⟩)) l.val).val
  rw [e]

omit hX hC in
theorem lay_apply (v : (⟨ReferenceIdeal.S36864, .i32⟩ : BufTy).Contents (Elt Ideal)) (n : Fin 36864) :
    (broadcastInDim ReferenceIdeal.S1x36864 ![1] ReferenceIdeal.Gen.facts.bcast_S36864_S1x36864_1 v :
      (⟨ReferenceIdeal.S1x36864, .i32⟩ : BufTy).Contents (Elt Ideal)) (ix2 0 n) = v (ix1 n) := by
  pointwise

/-- One row of the reference's places. -/
def refRow (x : (⟨S64x576x64, .f32⟩ : BufTy).Contents (Elt Ideal)) (cb : (⟨S4x1024x64, .f32⟩ : BufTy).Contents (Elt Ideal)) (l : Fin 4) :
    (⟨ReferenceIdeal.S1x36864, .i32⟩ : BufTy).Contents (Elt Ideal) :=
  broadcastInDim ReferenceIdeal.S1x36864 ![1] ReferenceIdeal.Gen.facts.bcast_S36864_S1x36864_1
    (RefRun.iF (F := Ideal) cb l (RefRun.resF (F := Ideal) cb (RefRun.rows0 (F := Ideal) x) l))

theorem meet_row (l : Fin 4) (n : Fin 36864) :
    refRow x cb l (ix2 0 n) = BitVec.ofNat 32 (pick (realC cb) (realX x n) l.val).val :=
  (lay_apply _ n).trans (RefRun.indF_apply (codes_real hC) (realX x) (rows_real hX) l n)

omit hX hC in
/-- Two recastings in a row are one. -/
theorem cast_cast {s t u : Shape} {α : Type} (v : s.Idx → α) (h : s.ShapeCasts t) (h' : t.ShapeCasts u) (h'' : s.ShapeCasts u) :
    shapeCast u (shapeCast t v h) h' = shapeCast u v h'' :=
  funext fun i => congrArg v (Shape.reshapeEquiv_reshapeEquiv _ _ _)

omit hX hC in
theorem out3_eq : RefRun.out3 (F := Ideal) cb (RefRun.rows0 (F := Ideal) x) =
    (shapeCast S4x64x576 (RefRun.stackF (F := Ideal) (refRow x cb 0) (refRow x cb 1) (refRow x cb 2) (refRow x cb 3))
      ReferenceIdeal.Gen.facts.shapeCasts_S4x36864_S4x64x576 : (⟨S4x64x576, .i32⟩ : BufTy).Contents (Elt Ideal)) := by
  unfold RefRun.out3 refRow
  rfl

/-- The last result of the reference is the kernel's. -/
theorem meet_out3 : RefRun.out3 (F := Ideal) cb (RefRun.rows0 (F := Ideal) x) =
    (shapeCast S4x64x576 (transpose S4x18x2048 [1, 0, 2] (indArr x cb) transposes_S18x4x2048_S4x18x2048_1_0_2) shapeCasts_S4x18x2048_S4x64x576 :
        (⟨S4x64x576, .i32⟩ : BufTy).Contents (Elt Ideal)) := by
  rw [out3_eq, meet_stack (refRow x cb) (meet_row hX hC)]
  exact cast_cast _ _ _ _

end Cert.KVal
-- ==== Proof.MeetLoss.lean ====
module

public import proofs.«01_k».proof.Proof.KLoss
public import proofs.«01_k».proof.Proof.Meet

/-!
The two losses are one.
-/

@[expose] public section

set_option maxRecDepth 16384

noncomputable section

namespace Cert.KVal
open Idealize.ShloMosaic Idealize.ShloMosaic.TcCoe Idealize.SL.Sem Cert.KernelIdeal Cert.KernelIdeal.Gen
open Cert.Spec

/-- The squared error of every row at every level. -/
def allErr (x : (⟨S64x576x64, .f32⟩ : BufTy).Contents (Elt Ideal)) (cb : (⟨S4x1024x64, .f32⟩ : BufTy).Contents (Elt Ideal)) : ℝ :=
  ∑ l : Fin 4, ∑ n, rowErr (realC cb) (realX x n) l.val

section Kernel
variable (m : (ℓ : Loc nD τ sig) → Buf (Elt Ideal) ℓ) (c : Dev nD)
variable (hX : ∀ i, inX m c i = (((inX m c i : EReal).toReal : ℝ) : EReal))
  (hC : ∀ i, inC m c i = (((inC m c i : EReal).toReal : ℝ) : EReal))

theorem sum_blk : ∑ t : Fin cfg0.N, blkErr m c t = allErr (inX m c) (inC m c) := by
  unfold blkErr allErr
  rw [Finset.sum_comm]
  exact Finset.sum_congr rfl fun l _ => sum_rows fun n => rowErr (realC (inC m c)) (realX (inX m c) n) l.val

theorem pay6_apply (a : Ideal .f32) : k0_pay6 (F := Ideal) a = ((a : EReal) * ((5 / 9437184 : ℝ) : EReal) : EReal) := by
  have e : (Named.named κ "loss_scale" 0x350E38E4#32 : Ideal .f32) = ((5 / 9437184 : ℝ) : EReal) := IdealRules.named_const.ideal_named_scalar _ _ _ _ rfl
  exact congrArg (fun b : EReal => (a : EReal) * b) e

include hX hC in
theorem loss_last (t : Fin cfg0.N) (ht : t.val = 17) : (outsAt0 m c t.val t.isLt).2.2.1 = fun _ => ((allErr (inX m c) (inC m c) * (5 / 9437184) : ℝ) : EReal) := by
  have hN : cfg0.N = 18 := N_0
  refine (loss_C m c t (by omega) (by omega)).trans (funext fun _ => ?_)
  rw [blk_err m c hX hC, add_word, pay6_apply, loss_upto m c hX hC (t.val - 1) (by omega), ← EReal.coe_add, ← EReal.coe_mul, ← sum_blk]
  have e : ∑ t : Fin cfg0.N, blkErr m c t = ∑ t ∈ Finset.range cfg0.N, (if h : t < cfg0.N then blkErr m c ⟨t, h⟩ else 0) := by
    rw [Finset.sum_range]
    exact Finset.sum_congr rfl fun t _ => by rw [dif_pos t.isLt]
  have f : Finset.range cfg0.N = Finset.range (t.val - 1 + 1 + 1) := congrArg _ (by omega)
  rw [e, f, Finset.sum_range_succ _ (t.val - 1 + 1), dif_pos (show t.val - 1 + 1 < cfg0.N by omega),
    show (⟨t.val - 1 + 1, by omega⟩ : Fin cfg0.N) = t from Fin.ext (by dsimp only; omega)]

include hX hC in
/-- The loss that the region leaves. -/
theorem arr_loss : (dats m 0 c).arrAt 6 (cfgs 0).N = (fun _ => ((allErr (inX m c) (inC m c) * (5 / 9437184) : ℝ) : EReal) : (⟨S1x1, .f32⟩ : BufTy).Contents (Elt Ideal)) := by
  refine (dats m 0 c).arrAt_eq_of_covers 6 _ (by decide +kernel) fun t hf y => ?_
  have ht : t.val % 18 = 17 := (flush0_6 t).mp hf
  have hl : t.val < 18 := lt_of_lt_of_eq t.isLt N_0
  blk_simp
  rw [after0_6]
  exact congrFun (loss_last m c hX hC t (by omega)) _

end Kernel

theorem count_word : Ideal.ofBits .f32 0x4A100000#32 = ((2359296 : ℝ) : EReal) := by
  simp [Ideal.ofBits, Ideal.ieee]
  rw [← EReal.coe_mul]
  norm_num

theorem quarter_word : Ideal.ofBits .f32 0x3E800000#32 = ((1 / 4 : ℝ) : EReal) := by
  simp [Ideal.ofBits, Ideal.ieee]
  rw [← EReal.coe_mul]
  norm_num

theorem mean_apply (d : (⟨ReferenceIdeal.S36864x64, .f32⟩ : BufTy).Contents (Elt Ideal)) (D : Fin 36864 → Fin 64 → ℝ)
    (hd : ∀ n e, d (ix2 n e) = ((D n e : ℝ) : EReal)) (i) :
    RefRun.meanF (F := Ideal) d i = (((∑ n, ∑ e, D n e * D n e) / 2359296 : ℝ) : EReal) := by
  refine (?_ : _ = Ideal.div (∑ n : Fin 36864, ∑ e : Fin 64, d (ix2 n e) * d (ix2 n e)) (Ideal.ofBits .f32 0x4A100000#32)).trans ?_
  · pointwise [RefRun.meanF]
  · simp only [hd, ← EReal.coe_mul, sum_coe, count_word]
    rw [Ideal.div_coe (by norm_num), ← EReal.coe_mul, mul_one_div]

theorem term_apply (x q : (⟨ReferenceIdeal.S36864x64, .f32⟩ : BufTy).Contents (Elt Ideal)) (X Q : Fin 36864 → Fin 64 → ℝ)
    (hx : ∀ n e, x (ix2 n e) = ((X n e : ℝ) : EReal)) (hq : ∀ n e, q (ix2 n e) = ((Q n e : ℝ) : EReal)) (i) :
    RefRun.termF (F := Ideal) x q i = (((∑ n, ∑ e, (Q n e - X n e) * (Q n e - X n e)) * (5 / 9437184) : ℝ) : EReal) := by
  refine (?_ : _ = (RefRun.meanF (F := Ideal) (subf (φ := .f32) q x : FVec Ideal ReferenceIdeal.S36864x64 .f32) i : EReal) + Ideal.ofBits .f32 0x3E800000#32 * (RefRun.meanF (F := Ideal) (subf (φ := .f32) x q : FVec Ideal ReferenceIdeal.S36864x64 .f32) i : EReal)).trans ?_
  · rfl
  · rw [mean_apply (subf (φ := .f32) q x : FVec Ideal ReferenceIdeal.S36864x64 .f32) (fun n e => Q n e - X n e) (fun n e => ?_) i,
      mean_apply (subf (φ := .f32) x q : FVec Ideal ReferenceIdeal.S36864x64 .f32) (fun n e => X n e - Q n e) (fun n e => ?_) i, quarter_word,
      ← EReal.coe_mul, ← EReal.coe_add]
    · have h : ∑ n, ∑ e, (X n e - Q n e) * (X n e - Q n e) = ∑ n, ∑ e, (Q n e - X n e) * (Q n e - X n e) :=
        Finset.sum_congr rfl fun n _ => Finset.sum_congr rfl fun e _ => by ring
      rw [h]
      refine congrArg _ ?_
      ring
    · show (x (ix2 n e) : EReal) - q (ix2 n e) = _
      rw [hx, hq, EReal.coe_sub]
    · show (q (ix2 n e) : EReal) - x (ix2 n e) = _
      rw [hx, hq, EReal.coe_sub]

section Reference
variable {x : (⟨S64x576x64, .f32⟩ : BufTy).Contents (Elt Ideal)} {cb : (⟨S4x1024x64, .f32⟩ : BufTy).Contents (Elt Ideal)}
  (hX : ∀ i, x i = (((x i : EReal).toReal : ℝ) : EReal)) (hC : ∀ i, cb i = (((cb i : EReal).toReal : ℝ) : EReal))
include hX hC

theorem level_loss (l : Fin 4) (i) :
    RefRun.termF (F := Ideal) (RefRun.resF (F := Ideal) cb (RefRun.rows0 (F := Ideal) x) l) (RefRun.qF (F := Ideal) cb l (RefRun.resF (F := Ideal) cb (RefRun.rows0 (F := Ideal) x) l)) i =
      (((∑ n, rowErr (realC cb) (realX x n) l.val) * (5 / 9437184) : ℝ) : EReal) :=
  term_apply _ _ (fun n e => resid (realC cb) (realX x n) l.val e) (fun n e => realC cb l.val (pick (realC cb) (realX x n) l.val) e)
    (fun n e => RefRun.resF_apply (codes_real hC) (realX x) (rows_real hX) l n e)
    (fun n e => RefRun.quant_apply (codes_real hC) (realX x) (rows_real hX) l n e) i

/-- The second result of the reference is the kernel's. -/
theorem meet_out1 : RefRun.out1 (F := Ideal) cb (RefRun.rows0 (F := Ideal) x) =
    (shapeCast S_ (fun _ => ((allErr x cb * (5 / 9437184) : ℝ) : EReal) : (⟨S1x1, .f32⟩ : BufTy).Contents (Elt Ideal)) shapeCasts_S1x1_S_ : (⟨S_, .f32⟩ : BufTy).Contents (Elt Ideal)) := by
  funext i
  have h := fun l => level_loss hX hC l i
  have z := zero_word
  unfold RefRun.out1
  refine (congrArg₂ (fun a b : EReal => a + b) (congrArg₂ (fun a b : EReal => a + b) (congrArg₂ (fun a b : EReal => a + b) (congrArg₂ (fun a b : EReal => a + b) z (h 0)) (h 1)) (h 2)) (h 3)).trans ?_
  simp only [← EReal.coe_add]
  show ((_ : ℝ) : EReal) = ((_ : ℝ) : EReal)
  refine congrArg _ ?_
  unfold allErr
  rw [Fin.sum_univ_four]
  ring

end Reference

end Cert.KVal
-- ==== Proof.Count.lean ====
module

public import proofs.«01_k».proof.Proof.KLevel
public import Idealize.ShloMosaic.Lib.IndicatorCount

/-!
A block's counts at the ideal reading, and the number of zeros among the counts.
-/

@[expose] public section

set_option maxRecDepth 16384

noncomputable section

namespace Cert.KVal
open Idealize.ShloMosaic Idealize.ShloMosaic.TcCoe Idealize.SL.Sem Cert.KernelIdeal Cert.KernelIdeal.Gen
open Cert.Spec

theorem one_word : Ideal.ofBits .bf16 0x3F80#16 = 1 := by
  simp [Ideal.ofBits, Ideal.ieee]
  rw [← EReal.coe_mul]
  norm_num

/-- The counts of a block added to a row of counts. -/
theorem counted_apply (i : IVec S2048 32) (row : Vec Ideal S1x1x1024 .f32) (K : Fin 2048 → Fin 1024) (k : Fin 1024)
    (hi : ∀ j, i (ix1 j) = BitVec.ofNat 32 (K j).val) (r : ℝ) (hr : row (ix3 0 0 k) = ((r : ℝ) : EReal)) :
    counted i row (ix3 0 0 k) = ((r + ∑ j, (if k = K j then 1 else 0 : ℝ) : ℝ) : EReal) := by
  pointwise [counted, hot, lane, k0_pay10]
  simp only [hi, hr, hot_apply, one_word, one_mul]
  rw [EReal.coe_add, ← sum_coe]
  refine congrArg _ (Finset.sum_congr rfl fun j _ => ?_)
  split <;> rfl

open Classical in
/-- How many pairs of a level and a code have the property `P`, as a word. -/
def wordOf (P : Fin 4 → Fin 1024 → Prop) : BitVec 32 := BitVec.ofNat 32 (∑ l, (Finset.univ.filter fun k => P l k).card)

/-- The kernel's last step counts the zeros among the counts. -/
theorem pay5_apply (v : Vec Ideal S4x1x1024 .f32) :
    extractAt ![0, 0, 0, 0] (k0_pay5 v) inpos_S1x1x1x1_p0_0_0_0 = wordOf fun l k => (v (ix3 l 0 k) : EReal) = 0 := by
  classical
  pointwise [k0_pay5]
  refine (IndicatorCount.fold_addi_setWidth_eq_card (w := 32) (fun x : S1x4x1x1024.Idx => BitVec.ofBool (decide ((v (ix3 (x 1) 0 (x 3)) : EReal) = 0))) _).trans ?_
  unfold wordOf
  refine congrArg _ ?_
  simp only [Finset.card_filter _ Finset.univ]
  rw [← Fintype.sum_prod_type' (fun (l : Fin 4) (k : Fin 1024) => if (v (ix3 l 0 k) : EReal) = 0 then 1 else 0), ← Finset.card_filter]
  refine Finset.card_nbij' (fun x => (x 1, x 3)) (fun p => ix4 0 p.1 0 p.2) ?_ ?_ ?_ ?_
  · intro x hx
    have h := (Finset.mem_filter.mp hx).2
    refine Finset.mem_filter.mpr ⟨Finset.mem_univ _, ?_⟩
    by_contra hne
    rw [decide_eq_false hne] at h
    exact absurd h (by decide)
  · intro p hp
    have h := (Finset.mem_filter.mp hp).2
    refine Finset.mem_filter.mpr ⟨Finset.mem_filter.mpr ⟨Finset.mem_univ _, ?_⟩, ?_⟩
    · funext a
      fin_cases a
      exact Subsingleton.elim (α := Fin 1) _ _
    · exact congrArg BitVec.ofBool (decide_eq_true h)
  · intro x _
    funext a
    fin_cases a
    · exact Subsingleton.elim (α := Fin 1) _ _
    · rfl
    · exact Subsingleton.elim (α := Fin 1) _ _
    · rfl
  · intro p _
    rfl

end Cert.KVal
-- ==== Proof.KCount.lean ====
module

public import proofs.«01_k».proof.Proof.KRun
public import Idealize.ShloMosaic.Lib.Pipeline.ReadBack

/-!
The counts that the grid points carry along.
-/

@[expose] public section

set_option maxRecDepth 16384

noncomputable section

namespace Cert.KVal
open Idealize.ShloMosaic Idealize.ShloMosaic.TcCoe Idealize.SL.Sem Cert.KernelIdeal Cert.KernelIdeal.Gen

section Points
variable {F : FTy → Type} [FloatOps F] [Named F]
variable (m : (ℓ : Loc nD τ sig) → Buf (Elt F) ℓ) (c : Dev nD) (t : Fin cfg0.N)

/-- The four rows of counts that a grid point stores, each from the row in `old`. -/
def cntPieces (x : Vec F S2048x64 .f32) (a1 : Vec F S4x1024x64 .f32) (a2 : Vec F S4x1024x192 .bf16)
    (a3 : Vec F S4x1024x1 .f32) (old : ℕ → Vec F S1x1x1024 .f32) : List (View.Piece (Elt F) S4x1x1024 .f32) :=
  [⟨Rect.unit ![3, 0, 0] ![1, 1, 1024] inb_S4x1x1024_S1x1x1024_3_0_0, counted (ind x a1 a2 a3 3) (old 3)⟩,
   ⟨Rect.unit ![2, 0, 0] ![1, 1, 1024] inb_S4x1x1024_S1x1x1024_2_0_0, counted (ind x a1 a2 a3 2) (old 2)⟩,
   ⟨Rect.unit ![1, 0, 0] ![1, 1, 1024] inb_S4x1x1024_S1x1x1024_1_0_0, counted (ind x a1 a2 a3 1) (old 1)⟩,
   ⟨Rect.unit ![0, 0, 0] ![1, 1, 1024] inb_S4x1x1024_S1x1x1024_0_0_0, counted (ind x a1 a2 a3 0) (old 0)⟩]

theorem whole_idx (h : ∀ a, (![0, 0, 0] : Fin 3 → ℕ) a + (![4, 1, 1024] : Fin 3 → ℕ) a ≤ S4x1x1024.size a) (j : S4x1x1024.Idx) :
    (Rect.unit (s := S4x1x1024) ![0, 0, 0] ![4, 1, 1024] h).toLoadRect.idx j = j := by
  funext a
  refine Fin.ext ?_
  fin_cases a <;> simp [LoadRect.idx]

/-- A later grid point adds its block's counts. -/
theorem cnt_B (h0 : ¬t.val % 18 = 0) : (outsAt0 m c t.val t.isLt).2.2.2.2 =
    View.canon (cntPieces (iblk m c 0 t) (iblk m c 1 t) (iblk m c 2 t) (iblk m c 3 t)
      (lcnt (outsAt0 m c (t.val - 1) (Nat.lt_of_le_of_lt (Nat.sub_le _ _) t.isLt)).2.2.2.2)) := by
  by_cases h1 : t.val % 18 = 17
  on_goal 1 => rw [outsAt0_C m c t h0 h1]
  on_goal 2 => rw [outsAt0_B m c t h0 h1]
  all_goals
    frame_out
    simp only [read_unread_whole, lane_eq, pay13_eq, pay15_eq, pay16_eq, pay17_eq, pay20_eq, pay21_eq, pay22_eq, pay23_eq, pay25_eq, pay27_eq, pay29_eq, pay30_eq,
    pay31_eq, pay32_eq, pay33_eq, pay34_eq, pay35_eq, pay36_eq, pay39_eq, pay41_eq, pay42_eq, pay44_eq, pay45_eq, pay46_eq,
    pay48_eq, pay50_eq]
    rfl

theorem pay5_congr (v w : Vec F S4x1x1024 .f32) (h : ∀ j, v j = w j) :
    (fun _ : S1x1.Idx => extractAt ![0, 0, 0, 0] (k0_pay5 v) inpos_S1x1x1x1_p0_0_0_0) =
      fun _ => extractAt ![0, 0, 0, 0] (k0_pay5 w) inpos_S1x1x1x1_p0_0_0_0 := by
  rw [funext h]

/-- The last grid point counts the codes with no row. -/
theorem unused_C (h0 : ¬t.val % 18 = 0) (h1 : t.val % 18 = 17) : (outsAt0 m c t.val t.isLt).2.2.2.1 =
    fun _ => extractAt ![0, 0, 0, 0] (k0_pay5 (View.canon (cntPieces (iblk m c 0 t) (iblk m c 1 t) (iblk m c 2 t) (iblk m c 3 t)
      (lcnt (outsAt0 m c (t.val - 1) (Nat.lt_of_le_of_lt (Nat.sub_le _ _) t.isLt)).2.2.2.2)))) inpos_S1x1x1x1_p0_0_0_0 := by
  rw [outsAt0_C m c t h0 h1]
  frame_out
  simp only [read_unread_whole, lane_eq, pay13_eq, pay15_eq, pay16_eq, pay17_eq, pay20_eq, pay21_eq, pay22_eq, pay23_eq, pay25_eq, pay27_eq, pay29_eq, pay30_eq,
    pay31_eq, pay32_eq, pay33_eq, pay34_eq, pay35_eq, pay36_eq, pay39_eq, pay41_eq, pay42_eq, pay44_eq, pay45_eq, pay46_eq,
    pay48_eq, pay50_eq, View.readCov_eq_canon']
  apply pay5_congr
  intro j
  rw [whole_idx]
  rfl

/-- The rows that the first grid point counts from. -/
def zeroRows : List (View.Piece (Elt F) S4x1x1024 .f32) :=
  [⟨Rect.unit ![0, 0, 0] ![4, 1, 1024] inb_S4x1x1024_S4x1x1024_0_0_0, k0_pay7⟩]

theorem zeroRows_apply (j : S4x1x1024.Idx) : View.canon (zeroRows (F := F)) j = Scalar.ofBits .f32 0x00000000#32 := by
  have e : (Rect.unit (s := S4x1x1024) ![0, 0, 0] ![4, 1, 1024] inb_S4x1x1024_S4x1x1024_0_0_0).emb j = j := by
    funext a
    refine Fin.ext ?_
    fin_cases a <;> simp [Rect.emb_apply]
  have h := View.canon_cons_emb (Val := Elt F) (e := .f32) (Rect.unit (s := S4x1x1024) ![0, 0, 0] ![4, 1, 1024] inb_S4x1x1024_S4x1x1024_0_0_0) (k0_pay7 (F := F)) [] j
  rw [e] at h
  exact h

theorem off_row {a : ℕ} (h : ∀ b, (![a, 0, 0] : Fin 3 → ℕ) b + (![1, 1, 1024] : Fin 3 → ℕ) b ≤ S4x1x1024.size b)
    (l : Fin 4) (k : Fin 1024) (hl : l.val ≠ a) : (ix3 l 0 k : S4x1x1024.Idx) ∉ (Rect.unit (s := S4x1x1024) ![a, 0, 0] ![1, 1, 1024] h).set := fun hm => by
  have e := Rect.mem_set_unit.mp hm 0
  have e1 : a ≤ l.val ∧ l.val < a + 1 := e
  omega

theorem on_row {a : ℕ} (h : ∀ b, (![a, 0, 0] : Fin 3 → ℕ) b + (![1, 1, 1024] : Fin 3 → ℕ) b ≤ S4x1x1024.size b)
    (l : Fin 4) (k : Fin 1024) (hl : l.val = a) (w : Vec F S1x1x1024 .f32) (L : List (View.Piece (Elt F) S4x1x1024 .f32)) :
    View.canon (⟨Rect.unit (s := S4x1x1024) ![a, 0, 0] ![1, 1, 1024] h, w⟩ :: L) (ix3 l 0 k) = w (ix3 0 0 k) := by
  have e : (Rect.unit (s := S4x1x1024) ![a, 0, 0] ![1, 1, 1024] h).emb (ix3 0 0 k : S1x1x1024.Idx) = (ix3 l 0 k : S4x1x1024.Idx) := by
    subst hl
    funext b
    refine Fin.ext ?_
    fin_cases b <;> simp [Rect.emb_apply, ix3]
  have h := View.canon_cons_emb (Val := Elt F) (e := .f32) (Rect.unit (s := S4x1x1024) ![a, 0, 0] ![1, 1, 1024] h) w L (ix3 0 0 k)
  rw [e] at h
  exact h

theorem row_idx {a : ℕ} (h : ∀ b, (![a, 0, 0] : Fin 3 → ℕ) b + (![1, 1, 1024] : Fin 3 → ℕ) b ≤ S4x1x1024.size b)
    (l : Fin 4) (k : Fin 1024) (hl : l.val = a) :
    (Rect.unit (s := S4x1x1024) ![a, 0, 0] ![1, 1, 1024] h).toLoadRect.idx (ix3 0 0 k : S1x1x1024.Idx) = ix3 l 0 k := by
  subst hl
  funext b
  refine Fin.ext ?_
  fin_cases b <;> simp [LoadRect.idx, ix3]

theorem skip_row {a : ℕ} (h : ∀ b, (![a, 0, 0] : Fin 3 → ℕ) b + (![1, 1, 1024] : Fin 3 → ℕ) b ≤ S4x1x1024.size b)
    (l : Fin 4) (k : Fin 1024) (hl : l.val ≠ a) (w : Vec F S1x1x1024 .f32) (L : List (View.Piece (Elt F) S4x1x1024 .f32)) :
    View.canon (⟨Rect.unit (s := S4x1x1024) ![a, 0, 0] ![1, 1, 1024] h, w⟩ :: L) (ix3 l 0 k) = View.canon L (ix3 l 0 k) :=
  View.canon_cons_of_not_mem _ _ (off_row h l k hl)

theorem read_row {a : ℕ} (h : ∀ b, (![a, 0, 0] : Fin 3 → ℕ) b + (![1, 1, 1024] : Fin 3 → ℕ) b ≤ S4x1x1024.size b)
    (l : Fin 4) (k : Fin 1024) (hl : l.val = a) (L : List (View.Piece (Elt F) S4x1x1024 .f32)) (z : Elt F .f32)
    (hz : View.canon L (ix3 l 0 k) = z) :
    View.canon L ((Rect.unit (s := S4x1x1024) ![a, 0, 0] ![1, 1, 1024] h).toLoadRect.idx (ix3 0 0 k : S1x1x1024.Idx)) = z := by
  rw [row_idx h l k hl]
  exact hz

/-- The counts stored for a level are those of its row. -/
theorem cntPieces_apply (x : Vec F S2048x64 .f32) (a1 : Vec F S4x1024x64 .f32) (a2 : Vec F S4x1024x192 .bf16)
    (a3 : Vec F S4x1024x1 .f32) (old : ℕ → Vec F S1x1x1024 .f32) (L : List (View.Piece (Elt F) S4x1x1024 .f32)) (l : Fin 4) (k : Fin 1024) :
    View.canon (cntPieces x a1 a2 a3 old ++ L) (ix3 l 0 k) = counted (ind x a1 a2 a3 l.val) (old l.val) (ix3 0 0 k) := by
  unfold cntPieces
  simp only [List.cons_append, List.nil_append]
  by_cases h3 : l.val = 3
  · rw [on_row _ l k h3, h3]
  rw [skip_row _ l k h3]
  by_cases h2 : l.val = 2
  · rw [on_row _ l k h2, h2]
  rw [skip_row _ l k h2]
  by_cases h1 : l.val = 1
  · rw [on_row _ l k h1, h1]
  rw [skip_row _ l k h1]
  have h0 : l.val = 0 := by omega
  rw [on_row _ l k h0, h0]

/-- The first grid point counts from zero. -/
theorem cnt_A (h0 : t.val % 18 = 0) : ∃ old : ℕ → Vec F S1x1x1024 .f32,
    (outsAt0 m c t.val t.isLt).2.2.2.2 = View.canon (cntPieces (iblk m c 0 t) (iblk m c 1 t) (iblk m c 2 t) (iblk m c 3 t) old ++ zeroRows) ∧
      ∀ (l : Fin 4) (k : Fin 1024), old l.val (ix3 0 0 k) = Scalar.ofBits .f32 0x00000000#32 := by
  rw [outsAt0_A m c t h0 (by omega)]
  frame_out
  simp only [read_unread_whole, lane_eq, pay13_eq, pay15_eq, pay16_eq, pay17_eq, pay20_eq, pay21_eq, pay22_eq, pay23_eq, pay25_eq, pay27_eq, pay29_eq, pay30_eq,
    pay31_eq, pay32_eq, pay33_eq, pay34_eq, pay35_eq, pay36_eq, pay39_eq, pay41_eq, pay42_eq, pay44_eq, pay45_eq, pay46_eq,
    pay48_eq, pay50_eq, View.readCov_eq_canon']
  refine ⟨fun n => match n with | 0 => _ | 1 => _ | 2 => _ | _ => _, rfl, ?_⟩
  intro l k
  fin_cases l <;> change View.canon _ _ = _
  · refine read_row (a := 0) _ 0 k rfl _ _ ?_
    exact zeroRows_apply _
  · refine read_row (a := 1) _ 1 k rfl _ _ ?_
    refine (skip_row _ 1 k (by decide) _ _).trans ?_
    exact zeroRows_apply _
  · refine read_row (a := 2) _ 2 k rfl _ _ ?_
    refine (skip_row _ 2 k (by decide) _ _).trans ?_
    refine (skip_row _ 2 k (by decide) _ _).trans ?_
    exact zeroRows_apply _
  · refine read_row (a := 3) _ 3 k rfl _ _ ?_
    refine (skip_row _ 3 k (by decide) _ _).trans ?_
    refine (skip_row _ 3 k (by decide) _ _).trans ?_
    refine (skip_row _ 3 k (by decide) _ _).trans ?_
    exact zeroRows_apply _

end Points
end Cert.KVal
-- ==== Proof.RefHist.lean ====
module

public import proofs.«01_k».proof.Proof.RefLevel
public import Idealize.ShloMosaic.Lib.Routing.OpsOne
public import Idealize.ShloMosaic.Lib.IndicatorCount

/-!
The reference's histogram of the chosen codes, and how many of its entries are zero.
-/

@[expose] public section

set_option maxRecDepth 16384

noncomputable section

namespace Cert.RefRun
open Cert.ReferenceIdeal Cert.ReferenceIdeal.Gen Idealize.ShloMosaic Idealize.ShloMosaic.TcCoe
open Cert.Spec Idealize.ShloMosaic.Routing

/-- An update of a vector by scalars at single indices lands where its index says. -/
theorem lands_at {N K : ℕ} (d : ScatterDims (shape1 K) (shape2 N 1) (shape1 N)) (hiw : d.insertedWindowDims = [0])
    (hsd : d.scatterDimsToOperandDims = [0]) (hivd : d.indexVectorDim = 1) (w : IVec (shape2 N 1) 32) (n : Fin N) (k : Fin K) :
    d.resultIdx? (ValueIdx.ix1 n) w = some (ValueIdx.ix1 k) ↔ (w (ValueIdx.ix2 n (0 : Fin 1))).toInt = (k.val : ℤ) := by
  have hm : (0 : Fin 1) ∈ d.scatterDimsToOperandDims := by rw [hsd]; exact List.mem_singleton_self _
  have hw : d.window (ValueIdx.ix1 n) 0 = 0 := by
    unfold ScatterDims.window
    refine dif_neg fun h => ?_
    have h2 := (List.mem_filter.mp h).2
    rw [hiw] at h2
    exact of_decide_eq_true h2 (List.mem_singleton_self _)
  have hs : d.start (ValueIdx.ix1 n) w 0 = (w (ValueIdx.ix2 n (0 : Fin 1))).toInt := by
    unfold ScatterDims.start
    rw [dif_pos hm]
    refine congrArg (fun i => (w i).toInt) (funext fun b => Fin.ext ?_)
    unfold ScatterDims.siIdx
    match b with
    | ⟨0, _⟩ =>
      rw [dif_neg (by rw [hivd]; exact Nat.zero_ne_one)]
      unfold ScatterDims.siCoord
      have e : ∀ a : Fin 1, (ValueIdx.ix1 n a).val = n.val := fun a => by rw [Subsingleton.elim a 0]
      exact e _
    | ⟨1, _⟩ =>
      rw [dif_pos (by rw [hivd])]
      simp [hsd]
  rw [resultIdx?_ix1, hs, hw]
  omega

/-- Adding one for every index leaves zero exactly at the places that no index names. -/
theorem hist_zero {N K : ℕ} (hN : N < 2 ^ 32) (d : ScatterDims (shape1 K) (shape2 N 1) (shape1 N)) (hiw : d.insertedWindowDims = [0])
    (hsd : d.scatterDimsToOperandDims = [0]) (hivd : d.indexVectorDim = 1) (x : IVec (shape1 K) 32) (hx : ∀ i, x i = 0#32)
    (w : IVec (shape2 N 1) 32) (u : IVec (shape1 N) 32) (hu : ∀ i, u i = 1#32) (k : Fin K) :
    Host.scatter d IntOp.addi x w u (ValueIdx.ix1 k) = 0#32 ↔ ∀ n : Fin N, (w (ValueIdx.ix2 n (0 : Fin 1))).toInt ≠ (k.val : ℤ) := by
  rw [scatter_at, hx]
  simp only [hu]
  have hl : ∀ (l : List (Fin (shape1 N).numel)) (z : ℕ), l.foldl (fun a n => if d.resultIdx? ((shape1 N).rowMajor.symm n) w = some (ValueIdx.ix1 k)
      then IntOp.addi a 1#32 else a) (BitVec.ofNat 32 z) =
      BitVec.ofNat 32 (z + l.countP fun n => decide ((w (ValueIdx.ix2 (n.cast (numel1 N)) (0 : Fin 1))).toInt = (k.val : ℤ))) := by
    intro l
    induction l with
    | nil => intro z; rfl
    | cons n l ih =>
      intro z
      rw [List.foldl_cons, List.countP_cons, symm1]
      have e := lands_at d hiw hsd hivd w (n.cast (numel1 N)) k
      by_cases h : (w (ValueIdx.ix2 (n.cast (numel1 N)) (0 : Fin 1))).toInt = (k.val : ℤ)
      · rw [if_pos (e.mpr h), if_pos (decide_eq_true h), show IntOp.addi (BitVec.ofNat 32 z) 1#32 = BitVec.ofNat 32 (z + 1) from
          (BitVec.ofNat_add z 1).symm, ih]
        congr 1
        omega
      · rw [if_neg fun q => h (e.mp q), if_neg (by simpa using h), ih]
        rfl
  refine (iff_of_eq (congrArg (· = 0#32) (hl _ 0))).trans ?_
  have hc := List.countP_le_length (p := fun n => decide ((w (ValueIdx.ix2 (Fin.cast (numel1 N) n) (0 : Fin 1))).toInt = (k.val : ℤ)))
    (l := List.finRange (shape1 N).numel)
  have hlen : (List.finRange (shape1 N).numel).length < 2 ^ 32 := by rw [List.length_finRange, numel1]; exact hN
  rw [Nat.zero_add, ← BitVec.toNat_inj, BitVec.toNat_ofNat, Nat.mod_eq_of_lt (lt_of_le_of_lt hc hlen)]
  show List.countP _ _ = 0 ↔ _
  rw [List.countP_eq_zero]
  constructor
  · intro h n hn
    exact h (n.cast (numel1 N).symm) (List.mem_finRange _) (decide_eq_true hn)
  · intro h n _ hn
    exact h (n.cast (numel1 N)) (of_decide_eq_true hn)

theorem histF_zero (w : (⟨S36864x1, .i32⟩ : BufTy).Contents (Elt Ideal)) (k : Fin 1024) :
    histF (F := Ideal) w (ix1 k) = 0#32 ↔ ∀ n : Fin 36864, (w (ix2 n 0) : BitVec 32).toInt ≠ (k.val : ℤ) := by
  unfold histF scatF
  exact hist_zero (N := 36864) (K := 1024) (by norm_num) _ rfl rfl rfl _ (fun _ => rfl) w _ (fun _ => rfl) k

open Classical in
/-- How many entries of a histogram are zero, as a word. -/
theorem zerosF_apply (h : (⟨S1024, .i32⟩ : BufTy).Contents (Elt Ideal)) (P : Fin 1024 → Prop)
    (hP : ∀ k, h (ix1 k) = 0#32 ↔ P k) (i) :
    zerosF (F := Ideal) h i = BitVec.ofNat 32 (Finset.univ.filter fun k => P k).card := by
  pointwise [zerosF]
  refine (IndicatorCount.fold_addi_setWidth_eq_card (w := 32) (fun k : Fin 1024 => IntOp.cmpi CmpIPredicate.eq (h (ix1 k)) 0#32) _).trans ?_
  refine congrArg (fun s => BitVec.ofNat 32 (Finset.card s)) (Finset.filter_congr fun k _ => ?_)
  rw [← hP k]
  show BitVec.ofBool (h (ix1 k) == 0#32) = 1#1 ↔ _
  by_cases e : h (ix1 k) = 0#32
  · simp [e]
  · rw [beq_eq_false_iff_ne.mpr e]
    simp [e]

end Cert.RefRun
-- ==== Proof.MeetCount.lean ====
module

public import proofs.«01_k».proof.Proof.Count
public import proofs.«01_k».proof.Proof.KCount
public import proofs.«01_k».proof.Proof.KLoss
public import proofs.«01_k».proof.Proof.RefHist
public import proofs.«01_k».proof.Proof.Meet

/-!
The two numbers of codes that no row chose are one.
-/

@[expose] public section

set_option maxRecDepth 16384

noncomputable section

namespace Cert.KVal
open Idealize.ShloMosaic Idealize.ShloMosaic.TcCoe Idealize.SL.Sem Cert.KernelIdeal Cert.KernelIdeal.Gen
open Cert.Spec

/-- No row chooses code `k` at level `l`. -/
def Free (x : (⟨S64x576x64, .f32⟩ : BufTy).Contents (Elt Ideal)) (cb : (⟨S4x1024x64, .f32⟩ : BufTy).Contents (Elt Ideal))
    (l : Fin 4) (k : Fin 1024) : Prop := ∀ n : Fin 36864, pick (realC cb) (realX x n) l.val ≠ k

section Kernel
variable (m : (ℓ : Loc nD τ sig) → Buf (Elt Ideal) ℓ) (c : Dev nD)
variable (hX : ∀ i, inX m c i = (((inX m c i : EReal).toReal : ℝ) : EReal))
  (hC : ∀ i, inC m c i = (((inC m c i : EReal).toReal : ℝ) : EReal))

/-- How many rows of block `t` choose code `k` at level `l`. -/
def blkHits (l : Fin 4) (k : Fin 1024) (t : Fin cfg0.N) : ℝ :=
  ∑ j : Fin 2048, (if k = pick (realC (inC m c)) (realX (inX m c) (rowOf t j)) l.val then 1 else 0)

include hX hC in
/-- One point adds its block's counts to a row of counts. -/
theorem hits_step (t : Fin cfg0.N) (old : ℕ → Vec Ideal S1x1x1024 .f32) (L : List (View.Piece (Elt Ideal) S4x1x1024 .f32))
    (l : Fin 4) (k : Fin 1024) (r : ℝ) (hr : old l.val (ix3 0 0 k) = ((r : ℝ) : EReal)) :
    View.canon (cntPieces (iblk m c 0 t) (iblk m c 1 t) (iblk m c 2 t) (iblk m c 3 t) old ++ L) (ix3 l 0 k) =
      ((r + blkHits m c l k t : ℝ) : EReal) :=
  (cntPieces_apply _ _ _ _ old L l k).trans
    (counted_apply _ _ (fun j => pick (realC (inC m c)) (realX (inX m c) (rowOf t j)) l.val) k
      (fun j => ind_apply (holds m c t hC) (fun e => latent m c t hX j e) l) r hr)

theorem lcnt_apply (a : Vec Ideal S4x1x1024 .f32) (l : Fin 4) (k : Fin 1024) : lcnt a l.val (ix3 0 0 k) = a (ix3 l 0 k) := by
  fin_cases l <;> exact congrArg a (row_idx _ _ k rfl)

include hX hC in
/-- A later point adds its block's counts to those before. -/
theorem hits_next (t : Fin cfg0.N) (h0 : ¬t.val % 18 = 0) (l : Fin 4) (k : Fin 1024) (r : ℝ)
    (hr : (outsAt0 m c (t.val - 1) (Nat.lt_of_le_of_lt (Nat.sub_le _ _) t.isLt)).2.2.2.2 (ix3 l 0 k) = ((r : ℝ) : EReal)) :
    (outsAt0 m c t.val t.isLt).2.2.2.2 (ix3 l 0 k) = ((r + blkHits m c l k t : ℝ) : EReal) := by
  rw [cnt_B m c t h0]
  have h := hits_step m c hX hC t (lcnt (outsAt0 m c (t.val - 1) (Nat.lt_of_le_of_lt (Nat.sub_le _ _) t.isLt)).2.2.2.2) [] l k r
    ((lcnt_apply _ l k).trans hr)
  rw [List.append_nil] at h
  exact h

include hX hC in
/-- What the first points have counted. -/
theorem hits_upto (l : Fin 4) (k : Fin 1024) (n : ℕ) : ∀ h : n < cfg0.N, (outsAt0 m c n h).2.2.2.2 (ix3 l 0 k) =
    ((∑ t ∈ Finset.range (n + 1), (if h : t < cfg0.N then blkHits m c l k ⟨t, h⟩ else 0) : ℝ) : EReal) := by
  have hN : cfg0.N = 18 := N_0
  induction n with
  | zero =>
    intro h
    obtain ⟨old, e, hz⟩ := cnt_A m c ⟨0, h⟩ rfl
    refine (congrFun e (ix3 l 0 k)).trans ?_
    rw [hits_step m c hX hC ⟨0, h⟩ old zeroRows l k 0 ((hz l k).trans zero_word), Finset.sum_range_one, dif_pos h, zero_add]
  | succ n ih =>
    intro h
    refine (hits_next m c hX hC ⟨n + 1, h⟩ (by dsimp only; omega) l k _ (ih (by omega))).trans ?_
    rw [Finset.sum_range_succ _ (n + 1), dif_pos h]

/-- All points together count every row. -/
theorem sum_hits (l : Fin 4) (k : Fin 1024) : ∑ t : Fin cfg0.N, blkHits m c l k t =
    ∑ n : Fin 36864, (if k = pick (realC (inC m c)) (realX (inX m c) n) l.val then (1 : ℝ) else 0) :=
  sum_rows fun n => if k = pick (realC (inC m c)) (realX (inX m c) n) l.val then (1 : ℝ) else 0

theorem free_iff (l : Fin 4) (k : Fin 1024) :
    (∑ n : Fin 36864, (if k = pick (realC (inC m c)) (realX (inX m c) n) l.val then (1 : ℝ) else 0)) = 0 ↔ Free (inX m c) (inC m c) l k := by
  rw [Finset.sum_eq_zero_iff_of_nonneg fun n _ => by split <;> norm_num]
  unfold Free
  constructor
  · intro h n e
    have := h n (Finset.mem_univ _)
    rw [if_pos e.symm] at this
    exact one_ne_zero this
  · intro h n _
    exact if_neg fun e => h n e.symm

include hX hC in
/-- The last point stores the number of codes with no row. -/
theorem unused_last (t : Fin cfg0.N) (ht : t.val = 17) : (outsAt0 m c t.val t.isLt).2.2.2.1 = fun _ => wordOf (Free (inX m c) (inC m c)) := by
  have hN : cfg0.N = 18 := N_0
  rw [unused_C m c t (by omega) (by omega), ← cnt_B m c t (by omega)]
  funext i
  refine (pay5_apply _).trans (congrArg wordOf (funext fun l => funext fun k => propext ?_))
  rw [← free_iff m c l k, ← sum_hits, hits_upto m c hX hC l k t.val t.isLt]
  have e : ∑ t : Fin cfg0.N, blkHits m c l k t = ∑ t ∈ Finset.range cfg0.N, (if h : t < cfg0.N then blkHits m c l k ⟨t, h⟩ else 0) := by
    rw [Finset.sum_range]
    exact Finset.sum_congr rfl fun t _ => by rw [dif_pos t.isLt]
  have f : Finset.range cfg0.N = Finset.range (t.val + 1) := congrArg _ (by omega)
  rw [e, f]
  exact EReal.coe_eq_zero

include hX hC in
/-- The number that the region leaves. -/
theorem arr_unused : (dats m 0 c).arrAt 7 (cfgs 0).N = (fun _ => wordOf (Free (inX m c) (inC m c)) : (⟨S1x1, .i32⟩ : BufTy).Contents (Elt Ideal)) := by
  refine (dats m 0 c).arrAt_eq_of_covers 7 _ (by decide +kernel) fun t hf y => ?_
  have ht : t.val % 18 = 17 := (flush0_7 t).mp hf
  have hl : t.val < 18 := lt_of_lt_of_eq t.isLt N_0
  blk_simp
  rw [after0_7]
  exact congrFun (unused_last m c hX hC t (by omega)) _

end Kernel

section Reference
variable {x : (⟨S64x576x64, .f32⟩ : BufTy).Contents (Elt Ideal)} {cb : (⟨S4x1024x64, .f32⟩ : BufTy).Contents (Elt Ideal)}
  (hX : ∀ i, x i = (((x i : EReal).toReal : ℝ) : EReal)) (hC : ∀ i, cb i = (((cb i : EReal).toReal : ℝ) : EReal))

theorem clip_apply (i : (⟨ReferenceIdeal.S36864, .i32⟩ : BufTy).Contents (Elt Ideal)) (n : Fin 36864) (k : Fin 1024)
    (h : i (ix1 n) = BitVec.ofNat 32 k.val) : RefRun.clipF (F := Ideal) i (ix1 n) = BitVec.ofNat 32 k.val := by
  have hk := k.isLt
  pointwise [RefRun.clipF]
  rw [h]
  refine if_neg fun hs => ?_
  rw [BitVec.slt, toInt_ofNat_small k.val (by omega)] at hs
  have h0 := of_decide_eq_true hs
  rw [BitVec.toInt_zero] at h0
  omega

open Classical in
include hX hC in
/-- At one level, the reference counts the codes that no row chose. -/
theorem level_free (l : Fin 4) (i) : RefRun.uF (F := Ideal) cb l (RefRun.resF (F := Ideal) cb (RefRun.rows0 (F := Ideal) x) l) i =
    BitVec.ofNat 32 (Finset.univ.filter fun k => Free x cb l k).card := by
  refine RefRun.zerosF_apply _ (Free x cb l) (fun k => (RefRun.histF_zero _ k).trans (forall_congr' fun n => ?_)) i
  have h := RefRun.indF_apply (codes_real hC) (realX x) (rows_real hX) l n
  rw [RefRun.colF_apply, RefRun.wrapF_apply _ n _ (clip_apply _ n _ h), toInt_ofNat_small _ (by have := (pick (realC cb) (realX x n) l.val).isLt; omega)]
  exact not_congr ⟨fun e => Fin.ext (by exact_mod_cast e), fun e => by rw [e]⟩

include hX hC in
/-- The third result of the reference is the kernel's. -/
theorem meet_out2 : RefRun.out2 (F := Ideal) cb (RefRun.rows0 (F := Ideal) x) =
    (shapeCast S_ (fun _ => wordOf (Free x cb) : (⟨S1x1, .i32⟩ : BufTy).Contents (Elt Ideal)) shapeCasts_S1x1_S_ : (⟨S_, .i32⟩ : BufTy).Contents (Elt Ideal)) := by
  funext i
  have h := fun l => level_free hX hC l i
  unfold RefRun.out2
  refine (congrArg₂ (fun a b : BitVec 32 => a + b) (congrArg₂ (fun a b : BitVec 32 => a + b) (congrArg₂ (fun a b : BitVec 32 => a + b)
    ((congrArg₂ (fun a b : BitVec 32 => a + b) (rfl : constantI ReferenceIdeal.S_ 32 0#32 i = 0#32) (h 0)).trans (BitVec.zero_add _)) (h 1)) (h 2)) (h 3)).trans ?_
  show _ = wordOf (Free x cb)
  unfold wordOf
  rw [Fin.sum_univ_four, BitVec.ofNat_add, BitVec.ofNat_add, BitVec.ofNat_add]

end Reference

end Cert.KVal
-- ==== Proof.RefKeep.lean ====
module

public import proofs.«01_k».proof.Proof.RefOps

/-!
# What the reference's operations touch

Every operation of the reference is a plain one on TensorCore buffers, and a level writes no buffer but its own.
-/

@[expose] public section

noncomputable section

namespace Cert.RefRun

open Cert.ReferenceIdeal Cert.ReferenceIdeal.Gen Idealize.ShloMosaic Idealize.ShloMosaic.TcCoe
open Idealize.SL.Sem Idealize.ShloMosaic.StableHlo

variable {F : FTy → Type} [FloatOps F]

set_option maxRecDepth 16384
set_option maxHeartbeats 4000000

/-! ## What the operations write -/

/-- The buffers that a level writes. -/
def levW (L : Lev) : List (Ref sig .tc) :=
  [L.cs.ref, L.code.ref, L.rr.ref, L.z0.ref, L.rsq.ref, L.rsq1.ref, L.two.ref, L.twoB.ref, L.r2.ref, L.codeT.ref,
    L.dot.ref, L.rsqB.ref, L.dif.ref, L.cc.ref, L.z1.ref, L.csq.ref, L.csq1.ref, L.csqT.ref, L.csqB.ref,
    L.dist.ref, L.am.v0.ref, L.am.cst.ref, L.am.c.ref, L.am.v1_0.ref, L.am.v1_1.ref, L.tk.c.ref, L.tk.v0.ref,
    L.tk.v1.ref, L.tk.c_0.ref, L.tk.v2.ref, L.tk.v3.ref, L.tk.call0.v0.ref, L.tk.v5.ref, L.tk.c_1.ref,
    L.tk.c_2.ref, L.tk.v6.ref, L.tk.v7.ref, L.tk.v8.ref, L.tk.v9.ref, L.tk.v10.ref, L.tk.v11.ref,
    L.tk.c_3.ref, L.tk.v12.ref, L.tk.v13.ref, L.tk.v14.ref, L.tk.cst.ref, L.tk.v15.ref, L.tk.v16.ref,
    L.qr.ref, L.qr2.ref, L.z2.ref, L.s1.ref, L.n1.ref, L.m1.ref, L.rq.ref, L.rq2.ref, L.z3.ref, L.s2.ref,
    L.n2.ref, L.m2.ref, L.beta.ref, L.bm.ref, L.term.ref, L.loss.ref, L.c0.ref, L.hist0.ref, L.lo.ref,
    L.cl.v0.ref, L.cl.v1.ref, L.cl.v2.ref, L.c1.ref, L.c1B.ref, L.neg.ref, L.c2.ref, L.c2B.ref, L.idx2.ref,
    L.idx3.ref, L.idx4.ref, L.one.ref, L.oneB.ref, L.hist.ref, L.z4.ref, L.z4B.ref, L.isz.ref, L.iszx.ref,
    L.z5.ref, L.cnt.ref, L.unused.ref, L.xq.ref, L.res.ref]

/-- An operation touches TensorCore buffers only, and its results are determined. -/
structure Plain (op : HloOp τ sig (Elt F)) : Prop where
  /-- its buffers are the TensorCore's -/
  bufs : op.bufs ⊆ tcRefs τ sig
  /-- nothing it writes is left open -/
  fresh : op.fresh = ∅

theorem plain_nullary (y : Ref sig .tc) (v : y.ty.Contents (Elt F)) (hy : y.space ≠ .host ∧ (y : DevRef τ sig).isScoped = false) :
    Plain (nullary (τ := τ) y v hy) := ⟨nullary_bufs_sub .., rfl⟩

theorem plain_unary (x y : Ref sig .tc) (f : x.ty.Contents (Elt F) → y.ty.Contents (Elt F)) (hx : x.space ≠ .host ∧ (x : DevRef τ sig).isScoped = false)
    (hy : y.space ≠ .host ∧ (y : DevRef τ sig).isScoped = false) : Plain (unary (τ := τ) x y f hx hy) := ⟨unary_bufs_sub .., rfl⟩

theorem plain_binary (a b y : Ref sig .tc) (f : a.ty.Contents (Elt F) → b.ty.Contents (Elt F) → y.ty.Contents (Elt F))
    (ha : a.space ≠ .host ∧ (a : DevRef τ sig).isScoped = false) (hb : b.space ≠ .host ∧ (b : DevRef τ sig).isScoped = false)
    (hy : y.space ≠ .host ∧ (y : DevRef τ sig).isScoped = false) : Plain (binary (τ := τ) a b y f ha hb hy) := ⟨binary_bufs_sub .., rfl⟩

theorem plain_ternary (a b c y : Ref sig .tc)
    (f : a.ty.Contents (Elt F) → b.ty.Contents (Elt F) → c.ty.Contents (Elt F) → y.ty.Contents (Elt F))
    (ha : a.space ≠ .host ∧ (a : DevRef τ sig).isScoped = false) (hb : b.space ≠ .host ∧ (b : DevRef τ sig).isScoped = false)
    (hc : c.space ≠ .host ∧ (c : DevRef τ sig).isScoped = false) (hy : y.space ≠ .host ∧ (y : DevRef τ sig).isScoped = false) :
    Plain (ternary (τ := τ) a b c y f ha hb hc hy) := ⟨ternary_bufs_sub .., rfl⟩

theorem plain_reshape (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) :
    Plain (reshape (τ := τ) (Val := Elt F) x y he hn hx hy) := ⟨reshape_bufs_sub .., rfl⟩

theorem plain_quaternary (a b c e y : Ref sig .tc)
    (f : a.ty.Contents (Elt F) → b.ty.Contents (Elt F) → c.ty.Contents (Elt F) → e.ty.Contents (Elt F) →
      y.ty.Contents (Elt F))
    (ha : a.space ≠ .host ∧ (a : DevRef τ sig).isScoped = false) (hb : b.space ≠ .host ∧ (b : DevRef τ sig).isScoped = false)
    (hc : c.space ≠ .host ∧ (c : DevRef τ sig).isScoped = false) (he : e.space ≠ .host ∧ (e : DevRef τ sig).isScoped = false)
    (hy : y.space ≠ .host ∧ (y : DevRef τ sig).isScoped = false) :
    Plain (quaternary (τ := τ) a b c e y f ha hb hc he hy) := ⟨quaternary_bufs_sub .., rfl⟩

/-- Every operation of a level is plain. -/
theorem plain_lev (l : Fin 4) : (levOps l : List (HloOp τ sig (Elt F))).Forall Plain := by
  match l with
  | 0 | 1 | 2 | 3 =>
    simp only [levOps, headOps, winA, argminOps, takeOps, winL, loss0, winL2, winH1, clipOps, winH2a, winH2b, winH2c, scatOp,
      winH2d, winH2e, unused0, winU, List.cons_append, List.nil_append, List.append_assoc, List.Forall,
      plain_nullary, plain_unary, plain_binary, plain_ternary, plain_quaternary, plain_reshape, and_true, true_and]

/-- Every operation of the reference is plain. -/
theorem plain_ops : (ops : List (HloOp τ sig (Elt F))).Forall Plain := by
  have hpre : (winPre : List (HloOp τ sig (Elt F))).Forall Plain := by
    simp only [winPre, List.Forall, plain_nullary, plain_unary, plain_reshape, and_true, true_and]
  have hpost : (winPost : List (HloOp τ sig (Elt F))).Forall Plain := by
    simp only [winPost, List.Forall, plain_binary, plain_unary, plain_reshape, and_true, true_and]
    exact ⟨nary_bufs_sub .., rfl⟩
  have app : ∀ {A B : List (HloOp τ sig (Elt F))}, A.Forall Plain → B.Forall Plain → (A ++ B).Forall Plain := by
    intro A B ha hb
    rw [List.forall_iff_forall_mem] at *
    intro op h
    rcases List.mem_append.mp h with h | h
    · exact ha op h
    · exact hb op h
  exact app (app (app (app (app hpre (plain_lev 0)) (plain_lev 1)) (plain_lev 2)) (plain_lev 3)) hpost

/-- Every operation of a level writes one of the level's buffers. -/
theorem lev_writes (l : Fin 4) : (levOps l : List (HloOp τ sig (Elt F))).Forall
    fun op => op.writes ⊆ (((levW (lev l)) ++ [main_cst_8, main_c_15]).map (Proc.devRef (τ := τ) .tc)).toFinset := by
  match l with
  | 0 | 1 | 2 | 3 =>
    simp only [levOps, headOps, winA, argminOps, takeOps, winL, loss0, winL2, winH1, clipOps, winH2a, winH2b, winH2c, scatOp,
      winH2d, winH2e, unused0, winU, List.cons_append, List.nil_append, List.append_assoc, List.Forall]
    simp only [nullary_writes, unary_writes, binary_writes, ternary_writes, quaternary_writes, reshape_writes,
      Finset.singleton_subset_iff, List.mem_toFinset]
    repeat' apply And.intro
    all_goals first
      | exact trivial
      | exact List.mem_map_of_mem (by decide)

/-- A buffer that a level does not write keeps its contents through it. -/
theorem keepLev (l : Fin 4) (V : Valuation τ sig (Elt F)) (r : Ref sig .tc) (h : r ∉ levW (lev l) ++ [main_cst_8, main_c_15]) :
    after (levOps l) V (Proc.devRef .tc r) = V (Proc.devRef .tc r) :=
  after_of_writes_sub (levOps l) V (lev_writes l) h

end Cert.RefRun
-- ==== Proof.RefMain.lean ====
module

public import proofs.«01_k».proof.Proof.RefOps
public import Idealize.ShloMosaic.Lib.Pipeline.Regions

/-!
# The reference program is its list of operations

The program is printed in five parts whose ends fall inside levels, so each part is first shown to be a
stretch of the list, and the stretches are then joined.
-/

@[expose] public section

noncomputable section

namespace Cert.RefRun

open Cert.ReferenceIdeal Cert.ReferenceIdeal.Gen Idealize.ShloMosaic Idealize.ShloMosaic.TcCoe
open Idealize.SL.Sem Idealize.ShloMosaic.StableHlo

variable {F : FTy → Type} [FloatOps F]

set_option maxRecDepth 16384
set_option maxHeartbeats 4000000

/-- The first part runs up to the zero counts of level 0. -/
theorem part0_eq (c : Dev nD) : main_part0 (F := F) c =
    seq (winPre ++ upOps lev0 (loss0 0) ++ winH2b lev0 ++ winH2c lev0 ++ scatOp 0 ++ winH2d lev0) := by
  simp only [upOps, headOps, List.append_assoc, seq_append, argmin_eq, take_eq, clip_eq]
  simp only [seq_bind_seqK]
  chain_rfl

/-- The second part runs up to the histogram of level 1. -/
theorem part1_eq (c : Dev nD) : main_part1 (F := F) c =
    seq (winH2e lev0 ++ unused0 0 ++ winU lev0 ++ upOps lev1 (loss0 1) ++ winH2b lev1 ++ winH2c lev1 ++ scatOp 1) := by
  simp only [upOps, headOps, List.append_assoc, seq_append, argmin_eq, take_eq, clip_eq]
  simp only [seq_bind_seqK]
  chain_rfl

/-- The third part runs up to the weights of level 2. -/
theorem part2_eq (c : Dev nD) : main_part2 (F := F) c =
    seq (winH2d lev1 ++ winH2e lev1 ++ unused0 1 ++ winU lev1 ++ upOps lev2 (loss0 2) ++ winH2b lev2) := by
  simp only [upOps, headOps, List.append_assoc, seq_append, argmin_eq, take_eq, clip_eq]
  simp only [seq_bind_seqK]
  chain_rfl

/-- The fourth part runs up to the wrapped indices of level 3. -/
theorem part3_eq (c : Dev nD) : main_part3 (F := F) c =
    seq (winH2c lev2 ++ scatOp 2 ++ winH2d lev2 ++ winH2e lev2 ++ unused0 2 ++ winU lev2 ++ upOps lev3 (loss0 3)) := by
  simp only [upOps, headOps, List.append_assoc, seq_append, argmin_eq, take_eq, clip_eq]
  simp only [seq_bind_seqK]
  chain_rfl

/-- The last part runs from the index column of level 3 to the results. -/
theorem part4_eq (c : Dev nD) : main_part4 (F := F) c =
    seq (winH2b lev3 ++ winH2c lev3 ++ scatOp 3 ++ winH2d lev3 ++ winH2e lev3 ++ unused0 3 ++ winU lev3 ++ winPost) := by
  simp only [List.append_assoc, seq_append]
  simp only [seq_bind_seqK]
  chain_rfl

/-- The list of the whole reference is its five stretches. -/
theorem ops_eq : (ops : List (HloOp τ sig (Elt F))) =
    (winPre ++ upOps lev0 (loss0 0) ++ winH2b lev0 ++ winH2c lev0 ++ scatOp 0 ++ winH2d lev0) ++
    ((winH2e lev0 ++ unused0 0 ++ winU lev0 ++ upOps lev1 (loss0 1) ++ winH2b lev1 ++ winH2c lev1 ++ scatOp 1) ++
    ((winH2d lev1 ++ winH2e lev1 ++ unused0 1 ++ winU lev1 ++ upOps lev2 (loss0 2) ++ winH2b lev2) ++
    ((winH2c lev2 ++ scatOp 2 ++ winH2d lev2 ++ winH2e lev2 ++ unused0 2 ++ winU lev2 ++ upOps lev3 (loss0 3)) ++
    (winH2b lev3 ++ winH2c lev3 ++ scatOp 3 ++ winH2d lev3 ++ winH2e lev3 ++ unused0 3 ++ winU lev3 ++ winPost)))) := by
  simp only [ops, levOps, upOps, lev, List.append_assoc]

end Cert.RefRun
-- ==== Proof.RefRun.lean ====
module

public import proofs.«01_k».proof.Proof.RefKeep
public import proofs.«01_k».proof.Proof.RefMain
public import proofs.«01_k».proof.Proof.RefRead
public import proofs.«01_k».proof.Proof.RefVals
public import Idealize.ShloMosaic.Adequacy
public import Idealize.ShloMosaic.Init

/-!
# The reference's run

Every run of the reference ends with its results at the four levels' functions of the arguments, and with its
arguments unchanged.
-/

@[expose] public section

noncomputable section

namespace Cert.RefRun

open Cert.ReferenceIdeal Cert.ReferenceIdeal.Gen Idealize.ShloMosaic Idealize.ShloMosaic.TcCoe
open Idealize.SL.Sem Idealize.ShloMosaic.StableHlo

variable {F : FTy → Type} [FloatOps F]

set_option maxRecDepth 16384
set_option maxHeartbeats 4000000

/-- The whole reference is its list of operations. -/
theorem main_eq (c : Dev nD) : main (F := F) c = seq ops := by
  rw [ops_eq, seq_append, ← part0_eq c, seq_append, ← part1_eq c, seq_append, ← part2_eq c, seq_append, ← part3_eq c,
    ← part4_eq c]
  rfl

/-! ## Before and after the levels -/

theorem readPre (V : Valuation τ sig (Elt F)) :
    after winPre V (Proc.devRef .tc main_v0) = (rows0 (V (Proc.devRef .tc main_arg0)) : (⟨S36864x64, .f32⟩ : BufTy).Contents (Elt F)) ∧
    after winPre V (Proc.devRef .tc main_v1) =
      (broadcastInDim S36864x64 ![] bcast_S_S36864x64 (constant S_ .f32 0x00000000#32) : (⟨S36864x64, .f32⟩ : BufTy).Contents (Elt F)) ∧
    after winPre V (Proc.devRef .tc main_arg0) = V (Proc.devRef .tc main_arg0) ∧
    after winPre V (Proc.devRef .tc main_arg1) = V (Proc.devRef .tc main_arg1) := by
  simp only [winPre]
  after_results_simp
  (repeat' apply And.intro) <;> first | rfl | trivial

theorem readPost (V : Valuation τ sig (Elt F)) :
    after winPost V (Proc.devRef .tc main_v192) =
      (shapeCast S64x576x64 (addf (V (Proc.devRef .tc main_v0))
        (subf (V (Proc.devRef .tc main_v188)) (V (Proc.devRef .tc main_v0)))) shapeCasts_S36864x64_S64x576x64 :
        (⟨S64x576x64, .f32⟩ : BufTy).Contents (Elt F)) ∧
    after winPost V (Proc.devRef .tc main_v198) = (shapeCast S4x64x576
      (stackF (F := F) (broadcastInDim S1x36864 ![1] bcast_S36864_S1x36864_1 (V (Proc.devRef .tc main_v19)))
        (broadcastInDim S1x36864 ![1] bcast_S36864_S1x36864_1 (V (Proc.devRef .tc main_v66)))
        (broadcastInDim S1x36864 ![1] bcast_S36864_S1x36864_1 (V (Proc.devRef .tc main_v113)))
        (broadcastInDim S1x36864 ![1] bcast_S36864_S1x36864_1 (V (Proc.devRef .tc main_v160)))) shapeCasts_S4x36864_S4x64x576 :
        (⟨S4x64x576, .i32⟩ : BufTy).Contents (Elt F)) ∧
    after winPost V (Proc.devRef .tc main_v172) = V (Proc.devRef .tc main_v172) ∧
    after winPost V (Proc.devRef .tc main_v187) = V (Proc.devRef .tc main_v187) ∧
    after winPost V (Proc.devRef .tc main_arg0) = V (Proc.devRef .tc main_arg0) ∧
    after winPost V (Proc.devRef .tc main_arg1) = V (Proc.devRef .tc main_arg1) := by
  simp only [winPost]
  after_results_simp
  try dsimp only [Matrix.cons_val]
  (repeat' apply And.intro) <;> first | rfl | trivial

/-! ## The whole -/

/-- The results after all the operations, from any contents of the buffers. -/
theorem readOps (V : Valuation τ sig (Elt F)) :
    let cb : (⟨S4x1024x64, .f32⟩ : BufTy).Contents (Elt F) := V (Proc.devRef .tc main_arg1)
    let x : (⟨S36864x64, .f32⟩ : BufTy).Contents (Elt F) := rows0 (V (Proc.devRef .tc main_arg0))
    after ops V (Proc.devRef .tc main_v192) = out0 cb x ∧
    after ops V (Proc.devRef .tc main_v172) = out1 cb x ∧
    after ops V (Proc.devRef .tc main_v187) = out2 cb x ∧
    after ops V (Proc.devRef .tc main_v198) = out3 cb x ∧
    after ops V (Proc.devRef .tc main_arg0) = V (Proc.devRef .tc main_arg0) ∧
    after ops V (Proc.devRef .tc main_arg1) = V (Proc.devRef .tc main_arg1) := by
  intro cb x
  have hcut : after ops V = after winPost (after (levOps 3) (after (levOps 2) (after (levOps 1) (after (levOps 0) (after winPre V))))) := by
    simp only [ops, after_append]
  rw [hcut]
  obtain ⟨p1, p2, p3, p4⟩ := readPre V
  generalize after winPre V = V0 at *
  have A := readLev 0 V0
  have ax := keepLev 0 V0 main_v0 (by decide)
  have a0 := keepLev 0 V0 main_arg0 (by decide)
  have ac := keepLev 0 V0 main_arg1 (by decide)
  generalize after (levOps 0) V0 = V1 at *
  have B := readLev 1 V1
  have bx := keepLev 1 V1 main_v0 (by decide)
  have b0 := keepLev 1 V1 main_arg0 (by decide)
  have bc := keepLev 1 V1 main_arg1 (by decide)
  have bi := keepLev 1 V1 main_v19 (by decide)
  generalize after (levOps 1) V1 = V2 at *
  have C := readLev 2 V2
  have cx := keepLev 2 V2 main_v0 (by decide)
  have c0 := keepLev 2 V2 main_arg0 (by decide)
  have cc := keepLev 2 V2 main_arg1 (by decide)
  have ci := keepLev 2 V2 main_v19 (by decide)
  have cj := keepLev 2 V2 main_v66 (by decide)
  generalize after (levOps 2) V2 = V3 at *
  have D := readLev 3 V3
  have dx := keepLev 3 V3 main_v0 (by decide)
  have d0 := keepLev 3 V3 main_arg0 (by decide)
  have dc := keepLev 3 V3 main_arg1 (by decide)
  have di := keepLev 3 V3 main_v19 (by decide)
  have dj := keepLev 3 V3 main_v66 (by decide)
  have dk := keepLev 3 V3 main_v113 (by decide)
  generalize after (levOps 3) V3 = V4 at *
  obtain ⟨e1, e2, e3, e4, e5, e6⟩ := readPost V4
  dsimp only at A B C D
  have hx0 : get (lev 0).xin V0 = resF cb x 0 := p1
  have hc0 : get (.of main_arg1 : TRef sig ⟨S4x1024x64, .f32⟩) V0 = cb := p4
  rw [hx0, hc0] at A
  obtain ⟨a1, a2, a3, a4, a5⟩ := A
  have hx1 : get (lev 1).xin V1 = resF cb x 1 := a5
  have hc1 : get (.of main_arg1 : TRef sig ⟨S4x1024x64, .f32⟩) V1 = cb := ac.trans p4
  rw [hx1, hc1] at B
  obtain ⟨b1, b2, b3, b4, b5⟩ := B
  have hx2 : get (lev 2).xin V2 = resF cb x 2 := b5
  have hc2 : get (.of main_arg1 : TRef sig ⟨S4x1024x64, .f32⟩) V2 = cb := bc.trans (ac.trans p4)
  rw [hx2, hc2] at C
  obtain ⟨c1, c2, c3, c4, c5⟩ := C
  have hx3 : get (lev 3).xin V3 = resF cb x 3 := c5
  have hc3 : get (.of main_arg1 : TRef sig ⟨S4x1024x64, .f32⟩) V3 = cb := cc.trans (bc.trans (ac.trans p4))
  rw [hx3, hc3] at D
  obtain ⟨d1, d2, d3, d4, d5⟩ := D
  have hq0 : get (lev 0).xqIn V0 = broadcastInDim S36864x64 ![] bcast_S_S36864x64 (constant S_ .f32 0x00000000#32) := p2
  rw [hq0] at a4
  have hq1 : get (lev 1).xqIn V1 = _ := a4
  rw [hq1] at b4
  have hq2 : get (lev 2).xqIn V2 = _ := b4
  rw [hq2] at c4
  have hq3 : get (lev 3).xqIn V3 = _ := c4
  rw [hq3] at d4
  have hl1 : get (lev 1).lossIn V1 = _ := a2
  rw [hl1] at b2
  have hl2 : get (lev 2).lossIn V2 = _ := b2
  rw [hl2] at c2
  have hl3 : get (lev 3).lossIn V3 = _ := c2
  rw [hl3] at d2
  have hu1 : get (lev 1).unusedIn V1 = _ := a3
  rw [hu1] at b3
  have hu2 : get (lev 2).unusedIn V2 = _ := b3
  rw [hu2] at c3
  have hu3 : get (lev 3).unusedIn V3 = _ := c3
  rw [hu3] at d3
  have hx : V4 (Proc.devRef .tc main_v0) = x := dx.trans (cx.trans (bx.trans (ax.trans p1)))
  have hq : V4 (Proc.devRef .tc main_v188) = xqF cb x := d4
  have hi0 : V4 (Proc.devRef .tc main_v19) = iF cb 0 (resF cb x 0) := di.trans (ci.trans (bi.trans a1))
  have hi1 : V4 (Proc.devRef .tc main_v66) = iF cb 1 (resF cb x 1) := dj.trans (cj.trans b1)
  have hi2 : V4 (Proc.devRef .tc main_v113) = iF cb 2 (resF cb x 2) := dk.trans c1
  have hi3 : V4 (Proc.devRef .tc main_v160) = iF cb 3 (resF cb x 3) := d1
  rw [hx, hq] at e1
  rw [hi0, hi1, hi2, hi3] at e2
  exact ⟨e1, e3.trans d2, e4.trans d3, e2, e5.trans (d0.trans (c0.trans (b0.trans (a0.trans p3)))),
    e6.trans (dc.trans (cc.trans (bc.trans (ac.trans p4))))⟩

/-! ## The run -/

theorem ops_sub (c : Dev nD) : (ops : List (HloOp τ sig (Elt F))).Forall fun op => op.bufs ⊆ tcRefs τ sig :=
  List.forall_iff_forall_mem.mpr fun op h => (List.forall_iff_forall_mem.mp plain_ops op h).bufs

theorem scopedRefs_eq : (Finset.univ.filter fun b : Ref sig .tc => b.isScoped) = ∅ := by decide

theorem scopedSems_eq : (Finset.univ.filter fun sm : SemLoc sig => sm.isScoped .tc) = ∅ := by decide

/-- Every run of the reference ends with the four results at their functions of the arguments, and with the arguments
unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v192) =
        out0 (F := F) (m ((c.tc : Thread nD τ).loc main_arg1)) (rows0 (F := F) (m ((c.tc : Thread nD τ).loc main_arg0)))
      ∧ r.2.mem ((c.tc : Thread nD τ).loc main_v172) =
        out1 (F := F) (m ((c.tc : Thread nD τ).loc main_arg1)) (rows0 (F := F) (m ((c.tc : Thread nD τ).loc main_arg0)))
      ∧ r.2.mem ((c.tc : Thread nD τ).loc main_v187) =
        out2 (F := F) (m ((c.tc : Thread nD τ).loc main_arg1)) (rows0 (F := F) (m ((c.tc : Thread nD τ).loc main_arg0)))
      ∧ r.2.mem ((c.tc : Thread nD τ).loc main_v198) =
        out3 (F := F) (m ((c.tc : Thread nD τ).loc main_arg1)) (rows0 (F := F) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_)
    (run_seq scopedRefs_eq scopedSems_eq (defs (F := F)) (main (F := F)) (fun _ => ops) main_eq ops_sub m ρ
      fun _ op h => (List.forall_iff_forall_mem.mp plain_ops op h).fresh)
  obtain ⟨h0, h1, h2, h3, h4, h5⟩ := readOps (F := F) (launchContents m c)
  exact ⟨(h c main_v192).trans h0, (h c main_v172).trans h1, (h c main_v187).trans h2, (h c main_v198).trans h3,
    (h c main_arg0).trans h4, (h c main_arg1).trans h5⟩

/-- Every run of the reference leaves its arguments unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => ⟨(h c).2.2.2.2.1, (h c).2.2.2.2.2⟩,
    Idealize.ShloMosaic.sem_eq_zero_of_no_sems (by decide) r.2⟩) (run m ρ)

end Cert.RefRun
-- ==== Proof.Agree.lean ====
module

public import proofs.«01_k».proof.Defs
public import proofs.«01_k».proof.Proof.MeetLoss
public import proofs.«01_k».proof.Proof.MeetCount
public import proofs.«01_k».proof.Proof.RefRun

/-!
The kernel's four results are the reference's, where both arguments are finite.
-/

@[expose] public section

set_option maxRecDepth 16384

noncomputable section

namespace Cert.KVal
open Idealize.ShloMosaic Idealize.ShloMosaic.TcCoe Idealize.SL.Sem Cert.KernelIdeal Cert.KernelIdeal.Gen

theorem inX_eq (m : (ℓ : Loc nD τ sig) → Buf (Elt Ideal) ℓ) (c : Dev nD) : inX m c = m ((c.tc : Thread nD τ).loc main_arg0) := rfl
theorem inC_eq (m : (ℓ : Loc nD τ sig) → Buf (Elt Ideal) ℓ) (c : Dev nD) : inC m c = m ((c.tc : Thread nD τ).loc main_arg1) := rfl

/-- What the kernel leaves, in the reference's words. -/
theorem run_ref (m : (ℓ : Loc nD τ sig) → Buf (Elt Ideal) ℓ) (ρ : Dev nD → PrngReg) (hpre : Cert.Pre_KernelIdeal_finite m) :
    θ_run defs (onTc (τ := τ) (main (F := Ideal))) ⟨m, fun _ => 0, ρ⟩ (fun r => ∀ c : Dev nD,
      r.2.mem ((c.tc : Thread nD τ).loc main_v29) = RefRun.out0 (F := Ideal) (inC m c) (RefRun.rows0 (F := Ideal) (inX m c))
      ∧ r.2.mem ((c.tc : Thread nD τ).loc main_v32) = RefRun.out1 (F := Ideal) (inC m c) (RefRun.rows0 (F := Ideal) (inX m c))
      ∧ r.2.mem ((c.tc : Thread nD τ).loc main_v33) = RefRun.out2 (F := Ideal) (inC m c) (RefRun.rows0 (F := Ideal) (inX m c))
      ∧ r.2.mem ((c.tc : Thread nD τ).loc main_v31) = RefRun.out3 (F := Ideal) (inC m c) (RefRun.rows0 (F := Ideal) (inX m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run m ρ)
  obtain ⟨hX, hC⟩ : (∀ i, inX m c i = (((inX m c i : EReal).toReal : ℝ) : EReal)) ∧ ∀ i, inC m c i = (((inC m c i : EReal).toReal : ℝ) : EReal) :=
    real_of_finite (hpre c)
  obtain ⟨h0, h1, h2, h3, h4, h5⟩ := h c
  rw [arr_xq m c hX hC] at h0
  rw [arr_loss m c hX hC] at h1
  rw [arr_unused m c hX hC] at h2
  rw [arr_ind m c hX hC] at h3
  exact ⟨h0.trans (meet_out0 hX hC).symm, h1.trans (meet_out1 hX hC).symm, h2.trans (meet_out2 hX hC).symm,
    h3.trans (meet_out3 hX hC).symm, h4, h5⟩

/-- The value claim. -/
theorem agree : Cert.algebraic_KernelIdeal_ReferenceIdeal_pre_finite := by
  intro m g m' g' hpre hagree
  refine ⟨fun c => RefRun.out0 (F := Ideal) (inC m c) (RefRun.rows0 (F := Ideal) (inX m c)),
    fun c => RefRun.out1 (F := Ideal) (inC m c) (RefRun.rows0 (F := Ideal) (inX m c)),
    fun c => RefRun.out2 (F := Ideal) (inC m c) (RefRun.rows0 (F := Ideal) (inX m c)),
    fun c => RefRun.out3 (F := Ideal) (inC m c) (RefRun.rows0 (F := Ideal) (inX m c)), run_ref m g hpre, ?_⟩
  refine (θ_run _ _ _).mono (fun r h c => ?_) (RefRun.run (F := Ideal) m' g')
  obtain ⟨e0, e1⟩ := hagree c
  obtain ⟨h0, h1, h2, h3, h4, h5⟩ := h c
  rw [e0, e1] at h0 h1 h2 h3
  exact ⟨h0, h1, h2, h3, h4, h5⟩

end Cert.KVal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The frames of the kernel, of its ideal program and of the reference, the ideal program's one rewrite, and the
    equality of the four results. -/
theorem claim : Cert.Claim := ⟨Cert.Kernel.Gen.facts, Cert.KernelIdeal.Gen.facts, Cert.ReferenceIdeal.Gen.facts, Cert.KVal.pre_facts,
  fun m ρ _ => Cert.Kernel.Gen.frame m ρ, fun m ρ _ => Cert.KernelIdeal.Gen.frame m ρ, fun m ρ _ => Cert.KernelIdeal.Gen.frame m ρ,
  fun m ρ _ => Cert.RefRun.frame m ρ, fun m ρ _ => Cert.RefRun.frame m ρ,
  IdealRules.named_const.statement Cert.KernelIdeal.κ "loss_scale" .f32 0x350E38E4#32 ((5 / 9437184 : ℝ) : EReal) rfl,
  Cert.KVal.agree⟩

end Cert.Proof

end
